-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "third" .f32 0x3EAAAAAB#32 ((3⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x96x96x96 : Shape := ⟨4, ![32, 96, 96, 96]⟩
abbrev S28311552 : Shape := ⟨1, ![28311552]⟩
abbrev S40894464 : Shape := ⟨1, ![40894464]⟩
abbrev S18432 : Shape := ⟨1, ![18432]⟩
abbrev S26624 : Shape := ⟨1, ![26624]⟩
abbrev S112 : Shape := ⟨1, ![112]⟩
abbrev S16 : Shape := ⟨1, ![16]⟩
abbrev S_ : Shape := ⟨0, ![]⟩
abbrev S32x96x104x128 : Shape := ⟨4, ![32, 96, 104, 128]⟩
abbrev S32x96x98x98 : Shape := ⟨4, ![32, 96, 98, 98]⟩

abbrev nBuf : Table → Nat
  | .hbm => 5
  | .local .scVector .vmem => 3
  | _ => 0

abbrev bufTy : (tb : Table) → Fin (nBuf tb) → BufTy
  | .hbm, ⟨0, _⟩ => ⟨S32x96x96x96, .f32⟩
  | .hbm, ⟨1, _⟩ => ⟨S28311552, .f32⟩
  | .hbm, ⟨2, _⟩ => ⟨S40894464, .f32⟩
  | .hbm, ⟨3, _⟩ => ⟨S32x96x104x128, .f32⟩
  | .hbm, ⟨4, _⟩ => ⟨S32x96x98x98, .f32⟩
  | .local .scVector .vmem, ⟨0, _⟩ => ⟨S18432, .f32⟩
  | .local .scVector .vmem, ⟨1, _⟩ => ⟨S26624, .f32⟩
  | .local .scVector .vmem, ⟨2, _⟩ => ⟨S112, .f32⟩
  | _, _ => ⟨S32x96x96x96, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_26 : BitVec 32 := 0#32
  let c48_i32 : BitVec 32 := 48#32
  let v42 : BitVec 32 := Scalar.addi c0_i32_26 c48_i32
  let c1_i32_27 : BitVec 32 := 1#32
  ⟨c0_i32_26, v42, c1_i32_27⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c884736_i32 : BitVec 32 := 884736#32
  let v43 : BitVec 32 := Scalar.muli v1 c884736_i32
  let c0_i32_26 : BitVec 32 := 0#32
  let c1_i32_27 : BitVec 32 := 1#32
  let arg7 : BitVec 32 := Scf.iv c0_i32_26 c1_i32_27 k0_t1
  let c18432_i32 : BitVec 32 := 18432#32
  let v44 : BitVec 32 := Scalar.muli arg7 c18432_i32
  let v45 : BitVec 32 := Scalar.addi v43 v44
  ![v45.toNat]
@[reducible] def k0_t2_loop : Scf.Loop 32 :=
  let c0_i32_78 : BitVec 32 := 0#32
  let c96_i32 : BitVec 32 := 96#32
  let v213 : BitVec 32 := Scalar.addi c0_i32_78 c96_i32
  let c1_i32_79 : BitVec 32 := 1#32
  ⟨c0_i32_78, v213, c1_i32_79⟩
def k0_off2 (k0_t2 : Fin k0_t2_loop.trips) (c18_i32 : BitVec 32) : Fin 1 → Nat :=
  let c0_i32_139 : BitVec 32 := 0#32
  let c0_i32_78 : BitVec 32 := 0#32
  let c1_i32_79 : BitVec 32 := 1#32
  let arg8 : BitVec 32 := Scf.iv c0_i32_78 c1_i32_79 k0_t2
  let c96_i32_138 : BitVec 32 := 96#32
  let v379 : BitVec 32 := Scalar.muli arg8 c96_i32_138
  let v380 : BitVec 32 := Scalar.addi c0_i32_139 v379
  let c96_i32_142 : BitVec 32 := 96#32
  let v384 : BitVec 32 := Scalar.addi v380 c96_i32_142
  let v385 : BitVec 32 := Scalar.subi v384 c18_i32
  let v386 : Index := Scalar.indexCast v385
  ![v386.toNat]
def k0_off3 (k0_t2 : Fin k0_t2_loop.trips) (c82_i32 : BitVec 32) : Fin 1 → Nat :=
  let c0_i32_141 : BitVec 32 := 0#32
  let c0_i32_78 : BitVec 32 := 0#32
  let c1_i32_79 : BitVec 32 := 1#32
  let arg8 : BitVec 32 := Scf.iv c0_i32_78 c1_i32_79 k0_t2
  let c1_i32_140 : BitVec 32 := 1#32
  let v381 : BitVec 32 := Scalar.addi arg8 c1_i32_140
  let c128_i32 : BitVec 32 := 128#32
  let v382 : BitVec 32 := Scalar.muli v381 c128_i32
  let v383 : BitVec 32 := Scalar.addi c0_i32_141 v382
  let v402 : BitVec 32 := Scalar.addi v383 c82_i32
  let v403 : Index := Scalar.indexCast v402
  ![v403.toNat]
def k0_off4 (k0_t2 : Fin k0_t2_loop.trips) : Fin 1 → Nat :=
  let c0_i32_139 : BitVec 32 := 0#32
  let c0_i32_78 : BitVec 32 := 0#32
  let c1_i32_79 : BitVec 32 := 1#32
  let arg8 : BitVec 32 := Scf.iv c0_i32_78 c1_i32_79 k0_t2
  let c96_i32_138 : BitVec 32 := 96#32
  let v379 : BitVec 32 := Scalar.muli arg8 c96_i32_138
  let v380 : BitVec 32 := Scalar.addi c0_i32_139 v379
  let v405 : Index := Scalar.indexCast v380
  ![v405.toNat]
def k0_off5 (k0_t2 : Fin k0_t2_loop.trips) (c1_i32_146 : BitVec 32) : Fin 1 → Nat :=
  let c0_i32_139 : BitVec 32 := 0#32
  let c0_i32_78 : BitVec 32 := 0#32
  let c1_i32_79 : BitVec 32 := 1#32
  let arg8 : BitVec 32 := Scf.iv c0_i32_78 c1_i32_79 k0_t2
  let c96_i32_138 : BitVec 32 := 96#32
  let v379 : BitVec 32 := Scalar.muli arg8 c96_i32_138
  let v380 : BitVec 32 := Scalar.addi c0_i32_139 v379
  let v407 : BitVec 32 := Scalar.addi v380 c1_i32_146
  let v408 : Index := Scalar.indexCast v407
  ![v408.toNat]
def k0_off5_at (r : Fin 7) : BitVec 32 :=
  if r.val < 3 then
    if r.val < 1 then
      1#32
    else
      if r.val < 2 then
        2#32
      else
        16#32
  else
    if r.val < 5 then
      if r.val < 4 then
        32#32
      else
        48#32
    else
      if r.val < 6 then
        64#32
      else
        80#32
def k0_off6 (k0_t2 : Fin k0_t2_loop.trips) : Fin 1 → Nat :=
  let c0_i32_141 : BitVec 32 := 0#32
  let c0_i32_78 : BitVec 32 := 0#32
  let c1_i32_79 : BitVec 32 := 1#32
  let arg8 : BitVec 32 := Scf.iv c0_i32_78 c1_i32_79 k0_t2
  let c1_i32_140 : BitVec 32 := 1#32
  let v381 : BitVec 32 := Scalar.addi arg8 c1_i32_140
  let c128_i32 : BitVec 32 := 128#32
  let v382 : BitVec 32 := Scalar.muli v381 c128_i32
  let v383 : BitVec 32 := Scalar.addi c0_i32_141 v382
  let v419 : Index := Scalar.indexCast v383
  ![v419.toNat]
def k0_off7 (k0_t2 : Fin k0_t2_loop.trips) (c16_i32_151 : BitVec 32) : Fin 1 → Nat :=
  let c0_i32_141 : BitVec 32 := 0#32
  let c0_i32_78 : BitVec 32 := 0#32
  let c1_i32_79 : BitVec 32 := 1#32
  let arg8 : BitVec 32 := Scf.iv c0_i32_78 c1_i32_79 k0_t2
  let c1_i32_140 : BitVec 32 := 1#32
  let v381 : BitVec 32 := Scalar.addi arg8 c1_i32_140
  let c128_i32 : BitVec 32 := 128#32
  let v382 : BitVec 32 := Scalar.muli v381 c128_i32
  let v383 : BitVec 32 := Scalar.addi c0_i32_141 v382
  let c1_i32_150 : BitVec 32 := 1#32
  let v427 : BitVec 32 := Scalar.addi v383 c1_i32_150
  let v428 : BitVec 32 := Scalar.addi v427 c16_i32_151
  let v429 : Index := Scalar.indexCast v428
  ![v429.toNat]
@[reducible] def k0_t3_loop : Scf.Loop 32 :=
  let c0_i32_134 : BitVec 32 := 0#32
  let c96_i32_135 : BitVec 32 := 96#32
  let v378 : BitVec 32 := Scalar.addi c0_i32_134 c96_i32_135
  let c1_i32_136 : BitVec 32 := 1#32
  ⟨c0_i32_134, v378, c1_i32_136⟩
def k0_off8 (k0_t3 : Fin k0_t3_loop.trips) (c18_i32 : BitVec 32) : Fin 1 → Nat :=
  let c9216_i32 : BitVec 32 := 9216#32
  let c0_i32_134 : BitVec 32 := 0#32
  let c1_i32_136 : BitVec 32 := 1#32
  let arg8 : BitVec 32 := Scf.iv c0_i32_134 c1_i32_136 k0_t3
  let c96_i32_138 : BitVec 32 := 96#32
  let v379 : BitVec 32 := Scalar.muli arg8 c96_i32_138
  let v380 : BitVec 32 := Scalar.addi c9216_i32 v379
  let c96_i32_140 : BitVec 32 := 96#32
  let v384 : BitVec 32 := Scalar.addi v380 c96_i32_140
  let v385 : BitVec 32 := Scalar.subi v384 c18_i32
  let v386 : Index := Scalar.indexCast v385
  ![v386.toNat]
def k0_off9 (k0_t3 : Fin k0_t3_loop.trips) (c82_i32 : BitVec 32) : Fin 1 → Nat :=
  let c13312_i32 : BitVec 32 := 13312#32
  let c0_i32_134 : BitVec 32 := 0#32
  let c1_i32_136 : BitVec 32 := 1#32
  let arg8 : BitVec 32 := Scf.iv c0_i32_134 c1_i32_136 k0_t3
  let c1_i32_139 : BitVec 32 := 1#32
  let v381 : BitVec 32 := Scalar.addi arg8 c1_i32_139
  let c128_i32 : BitVec 32 := 128#32
  let v382 : BitVec 32 := Scalar.muli v381 c128_i32
  let v383 : BitVec 32 := Scalar.addi c13312_i32 v382
  let v402 : BitVec 32 := Scalar.addi v383 c82_i32
  let v403 : Index := Scalar.indexCast v402
  ![v403.toNat]
def k0_off10 (k0_t3 : Fin k0_t3_loop.trips) : Fin 1 → Nat :=
  let c9216_i32 : BitVec 32 := 9216#32
  let c0_i32_134 : BitVec 32 := 0#32
  let c1_i32_136 : BitVec 32 := 1#32
  let arg8 : BitVec 32 := Scf.iv c0_i32_134 c1_i32_136 k0_t3
  let c96_i32_138 : BitVec 32 := 96#32
  let v379 : BitVec 32 := Scalar.muli arg8 c96_i32_138
  let v380 : BitVec 32 := Scalar.addi c9216_i32 v379
  let v405 : Index := Scalar.indexCast v380
  ![v405.toNat]
def k0_off11 (k0_t3 : Fin k0_t3_loop.trips) (c1_i32_144 : BitVec 32) : Fin 1 → Nat :=
  let c9216_i32 : BitVec 32 := 9216#32
  let c0_i32_134 : BitVec 32 := 0#32
  let c1_i32_136 : BitVec 32 := 1#32
  let arg8 : BitVec 32 := Scf.iv c0_i32_134 c1_i32_136 k0_t3
  let c96_i32_138 : BitVec 32 := 96#32
  let v379 : BitVec 32 := Scalar.muli arg8 c96_i32_138
  let v380 : BitVec 32 := Scalar.addi c9216_i32 v379
  let v407 : BitVec 32 := Scalar.addi v380 c1_i32_144
  let v408 : Index := Scalar.indexCast v407
  ![v408.toNat]
def k0_off11_at (r : Fin 7) : BitVec 32 :=
  if r.val < 3 then
    if r.val < 1 then
      1#32
    else
      if r.val < 2 then
        2#32
      else
        16#32
  else
    if r.val < 5 then
      if r.val < 4 then
        32#32
      else
        48#32
    else
      if r.val < 6 then
        64#32
      else
        80#32
def k0_off12 (k0_t3 : Fin k0_t3_loop.trips) : Fin 1 → Nat :=
  let c13312_i32 : BitVec 32 := 13312#32
  let c0_i32_134 : BitVec 32 := 0#32
  let c1_i32_136 : BitVec 32 := 1#32
  let arg8 : BitVec 32 := Scf.iv c0_i32_134 c1_i32_136 k0_t3
  let c1_i32_139 : BitVec 32 := 1#32
  let v381 : BitVec 32 := Scalar.addi arg8 c1_i32_139
  let c128_i32 : BitVec 32 := 128#32
  let v382 : BitVec 32 := Scalar.muli v381 c128_i32
  let v383 : BitVec 32 := Scalar.addi c13312_i32 v382
  let v419 : Index := Scalar.indexCast v383
  ![v419.toNat]
def k0_off13 (k0_t3 : Fin k0_t3_loop.trips) (c16_i32_149 : BitVec 32) : Fin 1 → Nat :=
  let c13312_i32 : BitVec 32 := 13312#32
  let c0_i32_134 : BitVec 32 := 0#32
  let c1_i32_136 : BitVec 32 := 1#32
  let arg8 : BitVec 32 := Scf.iv c0_i32_134 c1_i32_136 k0_t3
  let c1_i32_139 : BitVec 32 := 1#32
  let v381 : BitVec 32 := Scalar.addi arg8 c1_i32_139
  let c128_i32 : BitVec 32 := 128#32
  let v382 : BitVec 32 := Scalar.muli v381 c128_i32
  let v383 : BitVec 32 := Scalar.addi c13312_i32 v382
  let c1_i32_148 : BitVec 32 := 1#32
  let v427 : BitVec 32 := Scalar.addi v383 c1_i32_148
  let v428 : BitVec 32 := Scalar.addi v427 c16_i32_149
  let v429 : Index := Scalar.indexCast v428
  ![v429.toNat]
def k0_off14 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1277952_i32 : BitVec 32 := 1277952#32
  let v46 : BitVec 32 := Scalar.muli v1 c1277952_i32
  let c0_i32_26 : BitVec 32 := 0#32
  let c1_i32_27 : BitVec 32 := 1#32
  let arg7 : BitVec 32 := Scf.iv c0_i32_26 c1_i32_27 k0_t1
  let c26624_i32 : BitVec 32 := 26624#32
  let v47 : BitVec 32 := Scalar.muli arg7 c26624_i32
  let v48 : BitVec 32 := Scalar.addi v46 v47
  ![v48.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "third" => some ((3⁻¹ : ℝ) : EReal)
  | _ => none
-- ==== ReferenceIdeal.lean ====
abbrev S32x96x96x96 : Shape := ⟨4, ![32, 96, 96, 96]⟩
abbrev S4 : Shape := ⟨1, ![4]⟩
abbrev S1x4 : Shape := ⟨2, ![1, 4]⟩
abbrev S2x4 : Shape := ⟨2, ![2, 4]⟩
abbrev S8 : Shape := ⟨1, ![8]⟩
abbrev S2 : Shape := ⟨1, ![2]⟩
abbrev S_ : Shape := ⟨0, ![]⟩
abbrev S32x96x1x96 : Shape := ⟨4, ![32, 96, 1, 96]⟩
abbrev S32x96x1x98 : Shape := ⟨4, ![32, 96, 1, 98]⟩
abbrev S32x96x96x3 : Shape := ⟨4, ![32, 96, 96, 3]⟩
abbrev S32x96x96 : Shape := ⟨3, ![32, 96, 96]⟩
abbrev S32x96x96x1 : Shape := ⟨4, ![32, 96, 96, 1]⟩
abbrev S32x96x98x96 : Shape := ⟨4, ![32, 96, 98, 96]⟩
abbrev S32x96x98x1 : Shape := ⟨4, ![32, 96, 98, 1]⟩
abbrev S32x96x98x98 : Shape := ⟨4, ![32, 96, 98, 98]⟩
abbrev S1 : Shape := ⟨1, ![1]⟩
abbrev S8x1 : Shape := ⟨2, ![8, 1]⟩
abbrev S8x2 : Shape := ⟨2, ![8, 2]⟩
abbrev S8x96x1x98 : Shape := ⟨4, ![8, 96, 1, 98]⟩
abbrev S8x96x98 : Shape := ⟨3, ![8, 96, 98]⟩
abbrev S8x96x98x1 : Shape := ⟨4, ![8, 96, 98, 1]⟩

abbrev nBuf : Space → Nat
  | .hbm => 172
  | .vmem => 0
  | .smem => 0
  | _ => 0

abbrev hbmTy0_0 (i : Nat) : BufTy := match i % 128 with
  | 0 => ⟨S32x96x96x96, .f32⟩
  | 1 => ⟨S4, .i32⟩
  | 2 => ⟨S1x4, .i32⟩
  | 3 => ⟨S2x4, .i32⟩
  | 4 => ⟨S8, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2x4, .i32⟩
  | 13 => ⟨S8, .i32⟩
  | 14 => ⟨S8, .i32⟩
  | 15 => ⟨S4, .i32⟩
  | 16 => ⟨S_, .i32⟩
  | 17 => ⟨S4, .i32⟩
  | 18 => ⟨S4, .i32⟩
  | 19 => ⟨S1x4, .i32⟩
  | 20 => ⟨S2x4, .i32⟩
  | 21 => ⟨S8, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2x4, .i32⟩
  | 30 => ⟨S8, .i32⟩
  | 31 => ⟨S8, .i32⟩
  | 32 => ⟨S8, .i32⟩
  | 33 => ⟨S_, .i32⟩
  | 34 => ⟨S8, .i32⟩
  | 35 => ⟨S8, .i32⟩
  | 36 => ⟨S_, .i32⟩
  | 37 => ⟨S8, .i32⟩
  | 38 => ⟨S8, .i32⟩
  | 39 => ⟨S8, .i32⟩
  | 40 => ⟨S_, .i32⟩
  | 41 => ⟨S8, .i32⟩
  | 42 => ⟨S8, .i32⟩
  | 43 => ⟨S_, .i32⟩
  | 44 => ⟨S8, .i32⟩
  | 45 => ⟨S8, .i32⟩
  | 46 => ⟨S32x96x1x96, .f32⟩
  | 47 => ⟨S_, .f32⟩
  | 48 => ⟨S_, .f32⟩
  | 49 => ⟨S32x96x1x98, .f32⟩
  | 50 => ⟨S32x96x1x96, .f32⟩
  | 51 => ⟨S32x96x1x96, .f32⟩
  | 52 => ⟨S32x96x1x96, .f32⟩
  | 53 => ⟨S32x96x1x96, .f32⟩
  | 54 => ⟨S32x96x1x96, .f32⟩
  | 55 => ⟨S_, .f32⟩
  | 56 => ⟨S32x96x1x96, .f32⟩
  | 57 => ⟨S32x96x1x96, .f32⟩
  | 58 => ⟨S32x96x1x96, .f32⟩
  | 59 => ⟨S_, .f32⟩
  | 60 => ⟨S_, .f32⟩
  | 61 => ⟨S32x96x1x98, .f32⟩
  | 62 => ⟨S32x96x1x96, .f32⟩
  | 63 => ⟨S32x96x1x96, .f32⟩
  | 64 => ⟨S32x96x1x96, .f32⟩
  | 65 => ⟨S32x96x1x96, .f32⟩
  | 66 => ⟨S32x96x1x96, .f32⟩
  | 67 => ⟨S_, .f32⟩
  | 68 => ⟨S32x96x1x96, .f32⟩
  | 69 => ⟨S32x96x1x96, .f32⟩
  | 70 => ⟨S32x96x96x3, .f32⟩
  | 71 => ⟨S_, .f32⟩
  | 72 => ⟨S32x96x96, .f32⟩
  | 73 => ⟨S32x96x96x1, .f32⟩
  | 74 => ⟨S_, .f32⟩
  | 75 => ⟨S32x96x96x1, .f32⟩
  | 76 => ⟨S32x96x96x1, .f32⟩
  | 77 => ⟨S32x96x96x3, .f32⟩
  | 78 => ⟨S_, .f32⟩
  | 79 => ⟨S32x96x96, .f32⟩
  | 80 => ⟨S32x96x96x1, .f32⟩
  | 81 => ⟨S_, .f32⟩
  | 82 => ⟨S32x96x96x1, .f32⟩
  | 83 => ⟨S32x96x96x1, .f32⟩
  | 84 => ⟨S32x96x1x96, .f32⟩
  | 85 => ⟨S32x96x1x96, .f32⟩
  | 86 => ⟨S32x96x98x96, .f32⟩
  | 87 => ⟨S32x96x98x1, .f32⟩
  | 88 => ⟨S32x96x98x1, .f32⟩
  | 89 => ⟨S32x96x98x98, .f32⟩
  | 90 => ⟨S_, .i32⟩
  | 91 => ⟨S1, .i32⟩
  | 92 => ⟨S_, .i32⟩
  | 93 => ⟨S1, .i32⟩
  | 94 => ⟨S2, .i32⟩
  | 95 => ⟨S32x96x98x98, .f32⟩
  | 96 => ⟨S_, .i32⟩
  | 97 => ⟨S1, .i32⟩
  | 98 => ⟨S_, .i32⟩
  | 99 => ⟨S1, .i32⟩
  | 100 => ⟨S2, .i32⟩
  | 101 => ⟨S32x96x98x98, .f32⟩
  | 102 => ⟨S_, .i32⟩
  | 103 => ⟨S1, .i32⟩
  | 104 => ⟨S_, .i32⟩
  | 105 => ⟨S1, .i32⟩
  | 106 => ⟨S2, .i32⟩
  | 107 => ⟨S32x96x98x98, .f32⟩
  | 108 => ⟨S_, .i32⟩
  | 109 => ⟨S1, .i32⟩
  | 110 => ⟨S_, .i32⟩
  | 111 => ⟨S1, .i32⟩
  | 112 => ⟨S2, .i32⟩
  | 113 => ⟨S32x96x98x98, .f32⟩
  | 114 => ⟨S_, .i32⟩
  | 115 => ⟨S8, .i32⟩
  | 116 => ⟨S8, .i1⟩
  | 117 => ⟨S_, .i32⟩
  | 118 => ⟨S8, .i32⟩
  | 119 => ⟨S8, .i32⟩
  | 120 => ⟨S8, .i32⟩
  | 121 => ⟨S8x1, .i32⟩
  | 122 => ⟨S_, .i32⟩
  | 123 => ⟨S8x1, .i32⟩
  | 124 => ⟨S8x2, .i32⟩
  | 125 => ⟨S_, .f32⟩
  | 126 => ⟨S8x96x1x98, .f32⟩
  | 127 => ⟨S32x96x98x98, .f32⟩
  | _ => ⟨S32x96x96x96, .f32⟩

abbrev hbmTy0_1 (i : Nat) : BufTy := match i % 128 with
  | 0 => ⟨S_, .i32⟩
  | 1 => ⟨S8, .i32⟩
  | 2 => ⟨S8, .i1⟩
  | 3 => ⟨S_, .i32⟩
  | 4 => ⟨S8, .i32⟩
  | 5 => ⟨S8, .i32⟩
  | 6 => ⟨S8, .i32⟩
  | 7 => ⟨S_, .i32⟩
  | 8 => ⟨S8, .i32⟩
  | 9 => ⟨S8, .i32⟩
  | 10 => ⟨S8x1, .i32⟩
  | 11 => ⟨S8x1, .i32⟩
  | 12 => ⟨S8x2, .i32⟩
  | 13 => ⟨S_, .f32⟩
  | 14 => ⟨S8x96x98, .f32⟩
  | 15 => ⟨S32x96x98x98, .f32⟩
  | 16 => ⟨S_, .i32⟩
  | 17 => ⟨S8, .i32⟩
  | 18 => ⟨S8, .i1⟩
  | 19 => ⟨S_, .i32⟩
  | 20 => ⟨S8, .i32⟩
  | 21 => ⟨S8, .i32⟩
  | 22 => ⟨S8, .i32⟩
  | 23 => ⟨S8x1, .i32⟩
  | 24 => ⟨S_, .i32⟩
  | 25 => ⟨S8x1, .i32⟩
  | 26 => ⟨S8x2, .i32⟩
  | 27 => ⟨S_, .f32⟩
  | 28 => ⟨S8x96x98x1, .f32⟩
  | 29 => ⟨S32x96x98x98, .f32⟩
  | 30 => ⟨S_, .i32⟩
  | 31 => ⟨S8, .i32⟩
  | 32 => ⟨S8, .i1⟩
  | 33 => ⟨S_, .i32⟩
  | 34 => ⟨S8, .i32⟩
  | 35 => ⟨S8, .i32⟩
  | 36 => ⟨S8, .i32⟩
  | 37 => ⟨S8x1, .i32⟩
  | 38 => ⟨S_, .i32⟩
  | 39 => ⟨S8x1, .i32⟩
  | 40 => ⟨S8x2, .i32⟩
  | 41 => ⟨S_, .f32⟩
  | 42 => ⟨S8x96x98x1, .f32⟩
  | 43 => ⟨S32x96x98x98, .f32⟩
  | _ => ⟨S32x96x96x96, .f32⟩

abbrev hbmTy (i : Nat) : BufTy := match i / 128 with
  | 0 => hbmTy0_0 i
  | 1 => hbmTy0_1 i
  | _ => ⟨S32x96x96x96, .f32⟩

abbrev bufTy : (tb : Table) → Fin (tcTables nBuf tb) → BufTy
  | .hbm, ⟨i, _⟩ => hbmTy i
  | _, _ => ⟨S32x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_2 : Ref sig .tc := ⟨.hbm, 23, rfl⟩
abbrev main_v19 : Ref sig .tc := ⟨.hbm, 24, rfl⟩
abbrev main_v20 : Ref sig .tc := ⟨.hbm, 25, rfl⟩
abbrev main_c_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_4 : Ref sig .tc := ⟨.hbm, 33, rfl⟩
abbrev main_v27 : Ref sig .tc := ⟨.hbm, 34, rfl⟩
abbrev main_v28 : Ref sig .tc := ⟨.hbm, 35, rfl⟩
abbrev main_c_5 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_6 : Ref sig .tc := ⟨.hbm, 40, rfl⟩
abbrev main_v32 : Ref sig .tc := ⟨.hbm, 41, rfl⟩
abbrev main_v33 : Ref sig .tc := ⟨.hbm, 42, rfl⟩
abbrev main_c_7 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_call0_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_call1_v0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_15 : Ref sig .tc := ⟨.hbm, 90, rfl⟩
abbrev main_v70 : Ref sig .tc := ⟨.hbm, 91, rfl⟩
abbrev main_c_16 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_17 : Ref sig .tc := ⟨.hbm, 96, rfl⟩
abbrev main_v74 : Ref sig .tc := ⟨.hbm, 97, rfl⟩
abbrev main_c_18 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_19 : Ref sig .tc := ⟨.hbm, 102, rfl⟩
abbrev main_v78 : Ref sig .tc := ⟨.hbm, 103, rfl⟩
abbrev main_c_20 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_21 : Ref sig .tc := ⟨.hbm, 108, rfl⟩
abbrev main_v82 : Ref sig .tc := ⟨.hbm, 109, rfl⟩
abbrev main_c_22 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_23 : Ref sig .tc := ⟨.hbm, 114, rfl⟩
abbrev main_v86 : Ref sig .tc := ⟨.hbm, 115, rfl⟩
abbrev main_v87 : Ref sig .tc := ⟨.hbm, 116, rfl⟩
abbrev main_c_24 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_25 : Ref sig .tc := ⟨.hbm, 122, rfl⟩
abbrev main_v92 : Ref sig .tc := ⟨.hbm, 123, rfl⟩
abbrev main_v93 : Ref sig .tc := ⟨.hbm, 124, rfl⟩
abbrev main_cst_26 : Ref sig .tc := ⟨.hbm, 125, rfl⟩
abbrev main_v94 : Ref sig .tc := ⟨.hbm, 126, rfl⟩
abbrev main_v95 : Ref sig .tc := ⟨.hbm, 127, rfl⟩
abbrev main_c_27 : Ref sig .tc := ⟨.hbm, 128, rfl⟩
abbrev main_v96 : Ref sig .tc := ⟨.hbm, 129, rfl⟩
abbrev main_v97 : Ref sig .tc := ⟨.hbm, 130, rfl⟩
abbrev main_c_28 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_29 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_30 : Ref sig .tc := ⟨.hbm, 141, rfl⟩
abbrev main_v106 : Ref sig .tc := ⟨.hbm, 142, rfl⟩
abbrev main_v107 : Ref sig .tc := ⟨.hbm, 143, rfl⟩
abbrev main_c_31 : Ref sig .tc := ⟨.hbm, 144, rfl⟩
abbrev main_v108 : Ref sig .tc := ⟨.hbm, 145, rfl⟩
abbrev main_v109 : Ref sig .tc := ⟨.hbm, 146, rfl⟩
abbrev main_c_32 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_33 : Ref sig .tc := ⟨.hbm, 152, rfl⟩
abbrev main_v114 : Ref sig .tc := ⟨.hbm, 153, rfl⟩
abbrev main_v115 : Ref sig .tc := ⟨.hbm, 154, rfl⟩
abbrev main_cst_34 : Ref sig .tc := ⟨.hbm, 155, rfl⟩
abbrev main_v116 : Ref sig .tc := ⟨.hbm, 156, rfl⟩
abbrev main_v117 : Ref sig .tc := ⟨.hbm, 157, rfl⟩
abbrev main_c_35 : Ref sig .tc := ⟨.hbm, 158, rfl⟩
abbrev main_v118 : Ref sig .tc := ⟨.hbm, 159, rfl⟩
abbrev main_v119 : Ref sig .tc := ⟨.hbm, 160, rfl⟩
abbrev main_c_36 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_c_37 : Ref sig .tc := ⟨.hbm, 166, rfl⟩
abbrev main_v124 : Ref sig .tc := ⟨.hbm, 167, rfl⟩
abbrev main_v125 : Ref sig .tc := ⟨.hbm, 168, rfl⟩
abbrev main_cst_38 : Ref sig .tc := ⟨.hbm, 169, rfl⟩
abbrev main_v126 : Ref sig .tc := ⟨.hbm, 170, rfl⟩
abbrev main_v127 : Ref sig .tc := ⟨.hbm, 171, rfl⟩

abbrev nD : Nat := 1
abbrev τ : Topo := Topo.v7x

variable {F : FTy → Type} [FloatOps F]
-- ==== Proof.KernelIdeal.Sections.lean ====
/-
  The kernel body's memory sections as small programs of our own, and what each leaves in the scratches.

  A scratch is described by a function on the natural numbers: `buf g` holds `g n` at position `n`. The sections are the
  copy of one image row into the padded row scratch, the edge row computed from it, and one interior row of the result.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Pad

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it, and the resources -/

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-- The SparseCore and the subcore a grid point names. -/
abbrev cV (i : grid0.Coords) : Fin τ.nSC := (i 0).castLE hcore0
abbrev jV (i : grid0.Coords) : Fin τ.nSub := (i 1).castLE hsub0

/-- A program of the task at grid point `i`. -/
abbrev Tl (i : grid0.Coords) (α : Type) : Type 1 :=
  Prog (TpuEff nD τ sig (Elt F) Λ₀ (.scVector ((i 0).castLE hcore0) ((i 1).castLE hsub0))) α

/-- The three scratches: two input images, two padded output images, one padded row. -/
abbrev sIn : Memref sig .scVector .vmem S18432 .f32 := Memref.whole cc0_scratch0
abbrev sOut : Memref sig .scVector .vmem S26624 .f32 := Memref.whole cc0_scratch1
abbrev sPad : Memref sig .scVector .vmem S112 .f32 := Memref.whole cc0_scratch2

/-- An offset of a sixteen-lane window inside a scratch of `N` elements. -/
abbrev Off (N : ℕ) : Type := { o : Fin 1 → ℕ // ∀ a, o a + S16.size a ≤ (⟨1, ![N]⟩ : Shape).size a }

/-- The offset at position `o`. -/
abbrev offAt {N : ℕ} (o : ℕ) (h : o + 16 ≤ N) : Off N := ⟨![o], fun a => by obtain rfl : a = 0 := Subsingleton.elim _ _; exact h⟩

/-- The sixteen lanes of `g` from zero on. -/
def lane (g : ℕ → F .f32) : Vec F S16 .f32 := fun j => g (j 0).val

/-- A one-dimensional buffer holding `g n` at position `n`. -/
def buf {N : ℕ} (g : ℕ → F .f32) : (⟨1, ![N]⟩ : Shape).Idx → F .f32 := fun j => g (j 0).val

omit [FloatOps F] in
/-- Every buffer is described by some function. -/
theorem exists_buf {N : ℕ} (hN : 0 < N) (f : (⟨1, ![N]⟩ : Shape).Idx → F .f32) : ∃ g, f = buf g := by
  refine ⟨fun n => f fun a => ⟨n % N, by obtain rfl : a = 0 := Subsingleton.elim _ _; exact Nat.mod_lt _ hN⟩, funext fun j => ?_⟩
  unfold buf; congr 1; funext a; obtain rfl : a = 0 := Subsingleton.elim _ _
  exact Fin.ext (Nat.mod_eq_of_lt (j 0).isLt).symm

/-- `g` with the sixteen positions from `o` on replaced by `h`. -/
def put (o : ℕ) (h g : ℕ → F .f32) : ℕ → F .f32 := fun n => if o ≤ n ∧ n < o + 16 then h (n - o) else g n

section Ops
variable (i : grid0.Coords)

/-- Sixteen lanes read from, or written to, a scratch. -/
def ldIn (o : Off 18432) : Tl (F := F) i (Vec F S16 .f32) :=
  Prog.lift (.load sIn (Rect.unit (s := S18432) o.1 S16.size o.2).toLoadRect (View.loadsAt_vmem h_S16))
def ldOut (o : Off 26624) : Tl (F := F) i (Vec F S16 .f32) :=
  Prog.lift (.load sOut (Rect.unit (s := S26624) o.1 S16.size o.2).toLoadRect (View.loadsAt_vmem h_S16))
def ldPad (o : Off 112) : Tl (F := F) i (Vec F S16 .f32) :=
  Prog.lift (.load sPad (Rect.unit (s := S112) o.1 S16.size o.2).toLoadRect (View.loadsAt_vmem h_S16))
def stOut (o : Off 26624) (w : Vec F S16 .f32) : Tl (F := F) i PUnit :=
  Prog.lift (.store sOut (Rect.unit (s := S26624) o.1 S16.size o.2) w Finset.univ (View.stores_vmem_bits_univ h_S16 rfl) (.inl rfl))
def stPad (o : Off 112) (w : Vec F S16 .f32) : Tl (F := F) i PUnit :=
  Prog.lift (.store sPad (Rect.unit (s := S112) o.1 S16.size o.2) w Finset.univ (View.stores_vmem_bits_univ h_S16 rfl) (.inl rfl))

/-- The mean of three neighbours times a mask. -/
def mean3 (third : F .f32) (a b c : Vec F S16 .f32) (mk : F .f32) : Vec F S16 .f32 :=
  mulf (mulf (addf (addf a b) c) (broadcast S16 third) : FVec F S16 .f32) (broadcast S16 mk)

/-- A value times the product of two masks. -/
def corner (a : Vec F S16 .f32) (m₁ m₂ : F .f32) : Vec F S16 .f32 :=
  mulf (a : FVec F S16 .f32) (broadcast S16 (Scalar.mulf m₁ m₂))

/-- The first `16 n` elements of an image row copied to the padded row. -/
def padCopy (src : ℕ) (hs : src + 96 ≤ 18432) : (n : ℕ) → n ≤ 6 → Tl (F := F) i PUnit
  | 0, _ => pure ⟨⟩
  | n + 1, hn => do
    padCopy src hs n (by omega)
    let v ← ldIn i (offAt (src + 16 * n) (by omega))
    let _ ← ldPad i (offAt (16 * n) (by omega))
    stPad i (offAt (16 * n) (by omega)) v

/-- The first `16 n` inner elements of an edge row of the result. -/
def means (dst : ℕ) (hd : dst + 98 ≤ 26624) (third mz : F .f32) : (n : ℕ) → n ≤ 6 → Tl (F := F) i PUnit
  | 0, _ => pure ⟨⟩
  | n + 1, hn => do
    means dst hd third mz n (by omega)
    let a ← ldPad i (offAt (16 * n) (by omega))
    let b ← ldPad i (offAt (16 * n + 1) (by omega))
    let c ← ldPad i (offAt (16 * n + 2) (by omega))
    let _ ← ldOut i (offAt (dst + 1 + 16 * n) (by omega))
    stOut i (offAt (dst + 1 + 16 * n) (by omega)) (mean3 third a b c mz)

/-- One edge row of the result, from the image row at `src`. -/
def edge (src dst : ℕ) (hs : src + 96 ≤ 18432) (hd : dst + 98 ≤ 26624) (third mz lz rz : F .f32) : Tl (F := F) i PUnit := do
  padCopy i src hs 6 le_rfl
  let a ← ldPad i (offAt 80 (by omega))
  let _ ← ldOut i (offAt (dst + 82) (by omega))
  stOut i (offAt (dst + 82) (by omega)) (corner a mz rz)
  let b ← ldPad i (offAt 0 (by omega))
  let _ ← ldOut i (offAt dst (by omega))
  stOut i (offAt dst (by omega)) (corner b mz lz)
  means i dst hd third mz 6 le_rfl

/-- Sixteen lanes copied from the images to the result. -/
def copy (p : Off 18432 × Off 26624) : Tl (F := F) i PUnit := do
  let v ← ldIn i p.1
  let _ ← ldOut i p.2
  stOut i p.2 v

/-- One interior row of the result, at offsets given one by one. -/
def rowG (c b a l₀ l₁ l₂ : Off 18432) (dr dl d₁ : Off 26624) (p₁ p₂ p₃ p₄ p₅ : Off 18432 × Off 26624) (third lz rz : F .f32) :
    Tl (F := F) i PUnit := do
  let vc ← ldIn i c
  let vb ← ldIn i b
  let va ← ldIn i a
  let _ ← ldOut i dr
  stOut i dr (mean3 third vc vb va rz)
  let w₀ ← ldIn i l₀
  let w₁ ← ldIn i l₁
  let w₂ ← ldIn i l₂
  let _ ← ldOut i dl
  stOut i dl (mean3 third w₀ w₁ w₂ lz)
  let _ ← ldOut i d₁
  stOut i d₁ w₀
  copy i p₁
  copy i p₂
  copy i p₃
  copy i p₄
  copy i p₅

/-- One interior row of the result, from the image row at `src` to `dst`. -/
def row (src dst : ℕ) (hs : src + 96 ≤ 18432) (hd : dst + 98 ≤ 26624) (third lz rz : F .f32) : Tl (F := F) i PUnit :=
  rowG i (offAt (src + 78) (by omega)) (offAt (src + 79) (by omega)) (offAt (src + 80) (by omega))
    (offAt src (by omega)) (offAt (src + 1) (by omega)) (offAt (src + 2) (by omega))
    (offAt (dst + 82) (by omega)) (offAt dst (by omega)) (offAt (dst + 1) (by omega))
    (offAt (src + 16) (by omega), offAt (dst + 17) (by omega)) (offAt (src + 32) (by omega), offAt (dst + 33) (by omega))
    (offAt (src + 48) (by omega), offAt (dst + 49) (by omega)) (offAt (src + 64) (by omega), offAt (dst + 65) (by omega))
    (offAt (src + 80) (by omega), offAt (dst + 81) (by omega)) third lz rz

end Ops

/-! ## What the sections compute -/

/-- The mean of three values times a mask. -/
def mean1 (third a b c mk : F .f32) : F .f32 := FloatOps.mulf (FloatOps.mulf (FloatOps.addf (FloatOps.addf a b) c) third) mk

/-- The padded row after `16 n` elements of `x` from `src` on are copied. -/
def padded (x : ℕ → F .f32) (src n : ℕ) (p : ℕ → F .f32) : ℕ → F .f32 := fun k => if k < 16 * n then x (src + k) else p k

/-- An edge row of the result at column `c`, from the padded row `p`. -/
def edgeVal (third mz lz rz : F .f32) (p : ℕ → F .f32) (c : ℕ) : F .f32 :=
  if c = 0 then FloatOps.mulf (p 0) (Scalar.mulf mz lz)
  else if c = 97 then FloatOps.mulf (p 95) (Scalar.mulf mz rz)
  else mean1 third (p (c - 1)) (p c) (p (c + 1)) mz

/-- `g` with the first `16 n` inner elements of the edge row at `dst` computed. -/
def innerTo (third mz : F .f32) (p : ℕ → F .f32) (dst n : ℕ) (g : ℕ → F .f32) : ℕ → F .f32 := fun k =>
  if dst + 1 ≤ k ∧ k < dst + 1 + 16 * n then mean1 third (p (k - dst - 1)) (p (k - dst)) (p (k - dst + 1)) mz else g k

/-- An interior row of the result at column `c`, from the image row `x`. -/
def rowVal (third lz rz : F .f32) (x : ℕ → F .f32) (c : ℕ) : F .f32 :=
  if c = 0 then mean1 third (x 0) (x 1) (x 2) lz
  else if c = 97 then mean1 third (x 93) (x 94) (x 95) rz
  else x (c - 1)

/-- `g` with the ninety-eight positions from `dst` on replaced by `h`. -/
def putRow (dst : ℕ) (h g : ℕ → F .f32) : ℕ → F .f32 := fun n => if dst ≤ n ∧ n < dst + 98 then h (n - dst) else g n

/-! ## The rules -/

section Rules
variable [Named F] (d : Dev nD) (i : grid0.Coords)

/-- The thread of the task at grid point `i`. -/
abbrev th : Thread nD τ := V d (cV i) (jV i)

abbrev inPts (g : ℕ → F .f32) : sProp 𝕄 := (sIn.view.loc (th d i)) ↦[Finset.univ]{fullShare} (buf g : S18432.Idx → F .f32)
abbrev outPts (g : ℕ → F .f32) : sProp 𝕄 := (sOut.view.loc (th d i)) ↦[Finset.univ]{fullShare} (buf g : S26624.Idx → F .f32)
abbrev padPts (g : ℕ → F .f32) : sProp 𝕄 := (sPad.view.loc (th d i)) ↦[Finset.univ]{fullShare} (buf g : S112.Idx → F .f32)

abbrev WP {α : Type} (p : Tl (F := F) i α) (Q : α → sProp 𝕄) : sProp 𝕄 :=
  wp frame (wpE (defs₀ (F := F)) 𝒱₀ (th d i) none) Set.univ p Q

/-- Running one piece after another. -/
theorem WP_bind {α β : Type} (p : Tl (F := F) i α) (k : α → Tl (F := F) i β) (Q : β → sProp 𝕄) :
    WP d i (p >>= k) Q = WP d i p fun a => WP d i (k a) Q := wp_bind frame _ _ p k Q

/-- A piece that does nothing. -/
theorem WP_pure {α : Type} (a : α) (Q : α → sProp 𝕄) : Q a ⊢ WP d i (pure a) Q := by
  show Q a ⊢ wp _ _ _ (Prog.ret _) _
  rw [wp_ret]
  iintro H
  imodintro
  iexact H

/-- A load of sixteen lanes of the input scratch. -/
theorem wp_ldIn (o : ℕ) (ho : o + 16 ≤ 18432) (g : ℕ → F .f32) {Q : Vec F S16 .f32 → sProp 𝕄} :
    inPts d i g ⊢ iprop((inPts d i g -∗ Q (lane fun n => g (o + n))) -∗ WP d i (ldIn i (offAt o ho)) Q) := by
  have e : (sIn.view.readAt (Elt F) (Rect.unit (s := S18432) ![o] S16.size (offAt (N := 18432) o ho).2).toLoadRect (buf g : S18432.Idx → F .f32))
      = lane fun n => g (o + n) := by
    funext j
    show g _ = g _
    congr 1
    show o + 1 * (j 0).val = _
    omega
  unfold ldIn Prog.lift
  iintro H Hk
  iapply (wp_load 𝒱₀ (th d i) none Set.univ (m := sIn) (S := Finset.univ) (Finset.subset_univ _)) $$ H
  iintro H
  rw [e, wp_ret]
  imodintro
  iapply Hk
  iexact H

/-- A load of sixteen lanes of the output scratch, whatever they hold. -/
theorem wp_ldOut (o : ℕ) (ho : o + 16 ≤ 26624) (g : ℕ → F .f32) {Q : Vec F S16 .f32 → sProp 𝕄} :
    outPts d i g ⊢ iprop((∀ v, outPts d i g -∗ Q v) -∗ WP d i (ldOut i (offAt o ho)) Q) := by
  unfold ldOut Prog.lift
  iintro H Hk
  iapply (wp_load 𝒱₀ (th d i) none Set.univ (m := sOut) (S := Finset.univ) (Finset.subset_univ _)) $$ H
  iintro H
  rw [wp_ret]
  imodintro
  iapply Hk
  iexact H

/-- A load of sixteen lanes of the padded row. -/
theorem wp_ldPad (o : ℕ) (ho : o + 16 ≤ 112) (g : ℕ → F .f32) {Q : Vec F S16 .f32 → sProp 𝕄} :
    padPts d i g ⊢ iprop((padPts d i g -∗ Q (lane fun n => g (o + n))) -∗ WP d i (ldPad i (offAt o ho)) Q) := by
  have e : (sPad.view.readAt (Elt F) (Rect.unit (s := S112) ![o] S16.size (offAt (N := 112) o ho).2).toLoadRect (buf g : S112.Idx → F .f32))
      = lane fun n => g (o + n) := by
    funext j
    show g _ = g _
    congr 1
    show o + 1 * (j 0).val = _
    omega
  unfold ldPad Prog.lift
  iintro H Hk
  iapply (wp_load 𝒱₀ (th d i) none Set.univ (m := sPad) (S := Finset.univ) (Finset.subset_univ _)) $$ H
  iintro H
  rw [e, wp_ret]
  imodintro
  iapply Hk
  iexact H

/-- A store of sixteen lanes to the output scratch. -/
theorem wp_stOut (o : ℕ) (ho : o + 16 ≤ 26624) (g h : ℕ → F .f32) {Q : PUnit → sProp 𝕄} :
    outPts d i g ⊢ iprop((outPts d i (put o h g) -∗ Q ⟨⟩) -∗ WP d i (stOut i (offAt o ho) (lane h)) Q) := by
  have e : (sOut.access (Rect.unit (s := S26624) ![o] S16.size (offAt (N := 26624) o ho).2)).write (Elt F) (buf g : S26624.Idx → F .f32) (lane h) Finset.univ
      = (buf (put o h g) : S26624.Idx → F .f32) := by
    funext j
    by_cases hj : o ≤ (j 0).val ∧ (j 0).val < o + 16
    · obtain ⟨x, hx, hv⟩ : ∃ x : S16.Idx, (sOut.access (Rect.unit (s := S26624) ![o] S16.size (offAt (N := 26624) o ho).2)).emb x = j
          ∧ (x 0).val = (j 0).val - o := by
        refine ⟨fun a => ⟨(j 0).val - o, by obtain rfl : a = 0 := Subsingleton.elim _ _; show _ < 16; omega⟩, ?_, rfl⟩
        funext a
        obtain rfl : a = (0 : Fin 1) := Subsingleton.elim (α := Fin 1) _ _
        refine Fin.ext ?_
        show o + 1 * ((j 0).val - o) = (j 0).val
        omega
      have h1 : (sOut.access (Rect.unit (s := S26624) ![o] S16.size (offAt (N := 26624) o ho).2)).write (Elt F) (buf g : S26624.Idx → F .f32) (lane h) Finset.univ j
          = h (x 0).val := by
        rw [← hx]
        exact View.write_emb_of_mem (v := sOut.access (Rect.unit (s := S26624) ![o] S16.size (offAt (N := 26624) o ho).2)) (Val := Elt F) (buf g : S26624.Idx → F .f32)
          (lane h) (Finset.mem_univ x)
      rw [h1, hv]
      exact (if_pos hj).symm
    · refine (View.write_of_not_mem _ _ _ fun hm => hj ?_).trans (if_neg hj).symm
      obtain ⟨x, _, rfl⟩ := Finset.mem_map.mp hm
      have hx : (x 0).val < 16 := (x 0).isLt
      show o ≤ o + 1 * (x 0).val ∧ o + 1 * (x 0).val < o + 16
      omega
  unfold stOut Prog.lift
  iintro H Hk
  iapply (wp_store 𝒱₀ (th d i) none Set.univ (m := sOut) (r := Rect.unit (s := S26624) ![o] S16.size (offAt (N := 26624) o ho).2) (S := Finset.univ) (Finset.subset_univ _)) $$ H
  iintro H
  rw [e, wp_ret]
  imodintro
  iapply Hk
  iexact H

/-- A store of sixteen lanes to the padded row. -/
theorem wp_stPad (o : ℕ) (ho : o + 16 ≤ 112) (g h : ℕ → F .f32) {Q : PUnit → sProp 𝕄} :
    padPts d i g ⊢ iprop((padPts d i (put o h g) -∗ Q ⟨⟩) -∗ WP d i (stPad i (offAt o ho) (lane h)) Q) := by
  have e : (sPad.access (Rect.unit (s := S112) ![o] S16.size (offAt (N := 112) o ho).2)).write (Elt F) (buf g : S112.Idx → F .f32) (lane h) Finset.univ
      = (buf (put o h g) : S112.Idx → F .f32) := by
    funext j
    by_cases hj : o ≤ (j 0).val ∧ (j 0).val < o + 16
    · obtain ⟨x, hx, hv⟩ : ∃ x : S16.Idx, (sPad.access (Rect.unit (s := S112) ![o] S16.size (offAt (N := 112) o ho).2)).emb x = j
          ∧ (x 0).val = (j 0).val - o := by
        refine ⟨fun a => ⟨(j 0).val - o, by obtain rfl : a = 0 := Subsingleton.elim _ _; show _ < 16; omega⟩, ?_, rfl⟩
        funext a
        obtain rfl : a = (0 : Fin 1) := Subsingleton.elim (α := Fin 1) _ _
        refine Fin.ext ?_
        show o + 1 * ((j 0).val - o) = (j 0).val
        omega
      have h1 : (sPad.access (Rect.unit (s := S112) ![o] S16.size (offAt (N := 112) o ho).2)).write (Elt F) (buf g : S112.Idx → F .f32) (lane h) Finset.univ j
          = h (x 0).val := by
        rw [← hx]
        exact View.write_emb_of_mem (v := sPad.access (Rect.unit (s := S112) ![o] S16.size (offAt (N := 112) o ho).2)) (Val := Elt F) (buf g : S112.Idx → F .f32)
          (lane h) (Finset.mem_univ x)
      rw [h1, hv]
      exact (if_pos hj).symm
    · refine (View.write_of_not_mem _ _ _ fun hm => hj ?_).trans (if_neg hj).symm
      obtain ⟨x, _, rfl⟩ := Finset.mem_map.mp hm
      have hx : (x 0).val < 16 := (x 0).isLt
      show o ≤ o + 1 * (x 0).val ∧ o + 1 * (x 0).val < o + 16
      omega
  unfold stPad Prog.lift
  iintro H Hk
  iapply (wp_store 𝒱₀ (th d i) none Set.univ (m := sPad) (r := Rect.unit (s := S112) ![o] S16.size (offAt (N := 112) o ho).2) (S := Finset.univ) (Finset.subset_univ _)) $$ H
  iintro H
  rw [e, wp_ret]
  imodintro
  iapply Hk
  iexact H

/-- The mean of three lanes, lane by lane. -/
theorem mean3_lane (third mk : F .f32) (a b c : ℕ → F .f32) :
    mean3 third (lane a) (lane b) (lane c) mk = lane fun k => mean1 third (a k) (b k) (c k) mk := rfl

/-- A masked corner, lane by lane. -/
theorem corner_lane (m₁ m₂ : F .f32) (a : ℕ → F .f32) :
    corner (lane a) m₁ m₂ = lane fun k => FloatOps.mulf (a k) (Scalar.mulf m₁ m₂) := rfl

/-- The copy of an image row fills the padded row with it. -/
theorem wp_padCopy (src : ℕ) (hs : src + 96 ≤ 18432) (x p : ℕ → F .f32) :
    ∀ (n : ℕ) (hn : n ≤ 6) {Q : PUnit → sProp 𝕄},
      iprop(inPts d i x ∗ padPts d i p)
        ⊢ iprop((iprop(inPts d i x ∗ padPts d i (padded x src n p)) -∗ Q ⟨⟩) -∗ WP d i (padCopy i src hs n hn) Q)
  | 0, hn, Q => by
    have e : padded x src 0 p = p := funext fun k => if_neg (by omega)
    rw [e]
    unfold padCopy
    iintro H Hk
    iapply (WP_pure d i)
    iapply Hk
    iexact H
  | n + 1, hn, Q => by
    have e : padded x src (n + 1) p = put (16 * n) (fun k => x (src + 16 * n + k)) (padded x src n p) := by
      funext k
      unfold put padded
      split_ifs <;> first | omega | rfl | exact congrArg x (by omega)
    rw [e]
    unfold padCopy
    rw [WP_bind]
    iintro H Hk
    iapply (wp_padCopy src hs x p n (Nat.le_of_succ_le hn)) $$ H
    iintro ⟨Hx, Hp⟩
    rw [WP_bind]
    iapply (wp_ldIn d i) $$ Hx
    iintro Hx
    rw [WP_bind]
    iapply (wp_ldPad d i) $$ Hp
    iintro Hp
    iapply (wp_stPad d i) $$ Hp
    iintro Hp
    iapply Hk
    isplitl [Hx]; · iexact Hx
    iexact Hp

/-- The inner elements of an edge row. -/
theorem wp_means (dst : ℕ) (hd : dst + 98 ≤ 26624) (third mz : F .f32) (p g : ℕ → F .f32) :
    ∀ (n : ℕ) (hn : n ≤ 6) {Q : PUnit → sProp 𝕄},
      iprop(padPts d i p ∗ outPts d i g)
        ⊢ iprop((iprop(padPts d i p ∗ outPts d i (innerTo third mz p dst n g)) -∗ Q ⟨⟩) -∗ WP d i (means i dst hd third mz n hn) Q)
  | 0, hn, Q => by
    have e : innerTo third mz p dst 0 g = g := funext fun k => if_neg (by omega)
    rw [e]
    unfold means
    iintro H Hk
    iapply (WP_pure d i)
    iapply Hk
    iexact H
  | n + 1, hn, Q => by
    have e : innerTo third mz p dst (n + 1) g
        = put (dst + 1 + 16 * n) (fun k => mean1 third (p (16 * n + k)) (p (16 * n + 1 + k)) (p (16 * n + 2 + k)) mz) (innerTo third mz p dst n g) := by
      funext k
      unfold put innerTo
      have m : ∀ a b c a' b' c' : ℕ, a = a' → b = b' → c = c' → mean1 third (p a) (p b) (p c) mz = mean1 third (p a') (p b') (p c') mz := by
        rintro _ _ _ _ _ _ rfl rfl rfl; rfl
      split_ifs <;> first | omega | rfl | exact m _ _ _ _ _ _ (by omega) (by omega) (by omega)
    rw [e]
    unfold means
    rw [WP_bind]
    iintro H Hk
    iapply (wp_means dst hd third mz p g n (Nat.le_of_succ_le hn)) $$ H
    iintro ⟨Hp, Ho⟩
    rw [WP_bind]
    iapply (wp_ldPad d i) $$ Hp
    iintro Hp
    rw [WP_bind]
    iapply (wp_ldPad d i) $$ Hp
    iintro Hp
    rw [WP_bind]
    iapply (wp_ldPad d i) $$ Hp
    iintro Hp
    rw [WP_bind]
    iapply (wp_ldOut d i) $$ Ho
    iintro %v Ho
    rw [mean3_lane]
    iapply (wp_stOut d i) $$ Ho
    iintro Ho
    iapply Hk
    isplitl [Hp]; · iexact Hp
    iexact Ho

/-- An edge row: the padded row holds the image row, the result's row its masked means and corners. -/
theorem wp_edge (src dst : ℕ) (hs : src + 96 ≤ 18432) (hd : dst + 98 ≤ 26624) (third mz lz rz : F .f32) (x p g : ℕ → F .f32)
    {Q : PUnit → sProp 𝕄} :
    iprop(inPts d i x ∗ padPts d i p ∗ outPts d i g)
      ⊢ iprop((iprop(inPts d i x ∗ padPts d i (padded x src 6 p) ∗ outPts d i (putRow dst (edgeVal third mz lz rz (padded x src 6 p)) g)) -∗ Q ⟨⟩)
        -∗ WP d i (edge i src dst hs hd third mz lz rz) Q) := by
  generalize hp' : padded x src 6 p = p'
  have e : putRow dst (edgeVal third mz lz rz p') g
      = innerTo third mz p' dst 6 (put dst (fun k => FloatOps.mulf (p' (0 + k)) (Scalar.mulf mz lz))
          (put (dst + 82) (fun k => FloatOps.mulf (p' (80 + k)) (Scalar.mulf mz rz)) g)) := by
    funext k
    unfold putRow innerTo put edgeVal
    split_ifs <;> first
      | omega
      | rfl
      | exact congrArg (fun m => FloatOps.mulf (p' m) (Scalar.mulf mz lz)) (by omega)
      | exact congrArg (fun m => FloatOps.mulf (p' m) (Scalar.mulf mz rz)) (by omega)
  rw [e]
  unfold edge
  rw [WP_bind]
  iintro ⟨Hx, Hp, Ho⟩ Hk
  iapply (wp_padCopy d i src hs x p 6 le_rfl) $$ [Hx Hp]
  · isplitl [Hx] <;> iassumption
  rw [hp']
  iintro ⟨Hx, Hp⟩
  rw [WP_bind]
  iapply (wp_ldPad d i) $$ Hp
  iintro Hp
  rw [WP_bind]
  iapply (wp_ldOut d i) $$ Ho
  iintro %v Ho
  rw [WP_bind, corner_lane]
  iapply (wp_stOut d i) $$ Ho
  iintro Ho
  rw [WP_bind]
  iapply (wp_ldPad d i) $$ Hp
  iintro Hp
  rw [WP_bind]
  iapply (wp_ldOut d i) $$ Ho
  iintro %v Ho
  rw [WP_bind, corner_lane]
  iapply (wp_stOut d i) $$ Ho
  iintro Ho
  iapply (wp_means d i dst hd third mz p' _ 6 le_rfl) $$ [Hp Ho]
  · isplitl [Hp]; · iexact Hp
    iexact Ho
  iintro ⟨Hp, Ho⟩
  iapply Hk
  isplitl [Hx]; · iexact Hx
  isplitl [Hp]; · iexact Hp
  iexact Ho

/-- Sixteen lanes copied. -/
theorem wp_copy (a b : ℕ) (ha : a + 16 ≤ 18432) (hb : b + 16 ≤ 26624) (x g : ℕ → F .f32) {Q : PUnit → sProp 𝕄} :
    iprop(inPts d i x ∗ outPts d i g)
      ⊢ iprop((iprop(inPts d i x ∗ outPts d i (put b (fun k => x (a + k)) g)) -∗ Q ⟨⟩) -∗ WP d i (copy i (offAt a ha, offAt b hb)) Q) := by
  rw [show copy (F := F) i (offAt a ha, offAt b hb) = (do
    let v ← ldIn i (offAt a ha)
    let _ ← ldOut i (offAt b hb)
    stOut i (offAt b hb) v) from rfl, WP_bind]
  iintro ⟨Hx, Ho⟩ Hk
  iapply (wp_ldIn d i) $$ Hx
  iintro Hx
  rw [WP_bind]
  iapply (wp_ldOut d i) $$ Ho
  iintro %v Ho
  iapply (wp_stOut d i) $$ Ho
  iintro Ho
  iapply Hk
  isplitl [Hx]; · iexact Hx
  iexact Ho

/-- An interior row: its first and last columns the masked means, the others the image row. -/
theorem wp_row (src dst : ℕ) (hs : src + 96 ≤ 18432) (hd : dst + 98 ≤ 26624) (third lz rz : F .f32) (x g : ℕ → F .f32)
    {Q : PUnit → sProp 𝕄} :
    iprop(inPts d i x ∗ outPts d i g)
      ⊢ iprop((iprop(inPts d i x ∗ outPts d i (putRow dst (rowVal third lz rz fun k => x (src + k)) g)) -∗ Q ⟨⟩)
        -∗ WP d i (row i src dst hs hd third lz rz) Q) := by
  have e : putRow dst (rowVal third lz rz fun k => x (src + k)) g
      = put (dst + 81) (fun k => x (src + 80 + k)) (put (dst + 65) (fun k => x (src + 64 + k)) (put (dst + 49) (fun k => x (src + 48 + k))
          (put (dst + 33) (fun k => x (src + 32 + k)) (put (dst + 17) (fun k => x (src + 16 + k)) (put (dst + 1) (fun k => x (src + k))
            (put dst (fun k => mean1 third (x (src + k)) (x (src + 1 + k)) (x (src + 2 + k)) lz)
              (put (dst + 82) (fun k => mean1 third (x (src + 78 + k)) (x (src + 79 + k)) (x (src + 80 + k)) rz) g))))))) := by
    funext k
    unfold putRow put rowVal
    by_cases h : dst ≤ k ∧ k < dst + 98
    · obtain ⟨c, rfl⟩ : ∃ c, k = dst + c := ⟨k - dst, by omega⟩
      have hc : dst + c - dst = c := by omega
      have m : ∀ (a b c a' b' c' : ℕ) (mk : F .f32), a = a' → b = b' → c = c' →
          mean1 third (x a) (x b) (x c) mk = mean1 third (x a') (x b') (x c') mk := by
        rintro _ _ _ _ _ _ _ rfl rfl rfl; rfl
      rw [if_pos h, hc]
      rcases (by omega : c = 0 ∨ c = 97 ∨ (81 ≤ c ∧ c < 97) ∨ (65 ≤ c ∧ c < 81) ∨ (49 ≤ c ∧ c < 65) ∨ (33 ≤ c ∧ c < 49)
        ∨ (17 ≤ c ∧ c < 33) ∨ (1 ≤ c ∧ c < 17)) with rfl | rfl | h1 | h1 | h1 | h1 | h1 | h1
      · rw [if_pos rfl]
        repeat rw [if_neg (by omega)]
        rw [if_pos (by omega)]
      · repeat rw [if_neg (by omega)]
        rw [if_pos rfl]
        repeat rw [if_neg (by omega)]
        rw [if_pos (by omega)]
        exact m _ _ _ _ _ _ _ (by omega) (by omega) (by omega)
      all_goals
        repeat rw [if_neg (by omega)]
        rw [if_pos (by omega)]
        exact congrArg x (by omega)
    · rw [if_neg h]
      repeat rw [if_neg (by omega)]
  rw [e]
  unfold row rowG
  rw [WP_bind]
  iintro ⟨Hx, Ho⟩ Hk
  iapply (wp_ldIn d i) $$ Hx
  iintro Hx
  rw [WP_bind]
  iapply (wp_ldIn d i) $$ Hx
  iintro Hx
  rw [WP_bind]
  iapply (wp_ldIn d i) $$ Hx
  iintro Hx
  rw [WP_bind]
  iapply (wp_ldOut d i) $$ Ho
  iintro %v Ho
  rw [WP_bind]
  rw [mean3_lane]
  iapply (wp_stOut d i) $$ Ho
  iintro Ho
  rw [WP_bind]
  iapply (wp_ldIn d i) $$ Hx
  iintro Hx
  rw [WP_bind]
  iapply (wp_ldIn d i) $$ Hx
  iintro Hx
  rw [WP_bind]
  iapply (wp_ldIn d i) $$ Hx
  iintro Hx
  rw [WP_bind]
  iapply (wp_ldOut d i) $$ Ho
  iintro %v Ho
  rw [WP_bind]
  rw [mean3_lane]
  iapply (wp_stOut d i) $$ Ho
  iintro Ho
  rw [WP_bind]
  iapply (wp_ldOut d i) $$ Ho
  iintro %v Ho
  rw [WP_bind]
  iapply (wp_stOut d i) $$ Ho
  iintro Ho
  rw [WP_bind]
  iapply (wp_copy d i _ _ _ _) $$ [Hx Ho]
  · isplitl [Hx]; · iexact Hx
    iexact Ho
  iintro H
  rw [WP_bind]
  iapply (wp_copy d i _ _ _ _) $$ H
  iintro H
  rw [WP_bind]
  iapply (wp_copy d i _ _ _ _) $$ H
  iintro H
  rw [WP_bind]
  iapply (wp_copy d i _ _ _ _) $$ H
  iintro H
  iapply (wp_copy d i _ _ _ _) $$ H
  iintro H
  iapply Hk
  iexact H

end Rules

end Cert.KernelIdeal.Pad
-- ==== Proof.KernelIdeal.Body.lean ====
/-
  The printed kernel body as a sequence of the sections of `Sections`.
-/
module

public import proofs.«01_k».proof.Proof.KernelIdeal.Sections

@[expose] public section

noncomputable section

namespace Cert.KernelIdeal.Pad

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

/-- The constant that stands for one third. -/
def third : F .f32 := Named.named κ "third" 0x3EAAAAAB#32

/-- The masks of a task: zero on the sides of the image that lie on the border of the four by four patch grid. -/
def tz (i : grid0.Coords) : F .f32 := k0_pay41 i
/-- The mask of the bottom row. -/
def bz (i : grid0.Coords) : F .f32 := k0_pay42 i
/-- The mask of the left column. -/
def lz (i : grid0.Coords) : F .f32 := k0_pay43 i

/-- The operands and results in main memory. -/
abbrev aIn : Memref sig .scVector .hbm S28311552 .f32 := Memref.whole main_v0_scv
abbrev aOut : Memref sig .scVector .hbm S40894464 .f32 := Memref.whole main_v1_scv

/-- The two images read at trip `t`, and the two written. -/
abbrev wIn (i : grid0.Coords) (t : Fin k0_t1_loop.trips) : Memref sig .scVector .hbm S18432 .f32 :=
  aIn.slice (Rect.unit (s := S28311552) (k0_off1 i t) S18432.size (k0_off1_inb i t)) (fun _ => rfl)
abbrev wOut (i : grid0.Coords) (t : Fin k0_t1_loop.trips) : Memref sig .scVector .hbm S26624 .f32 :=
  aOut.slice (Rect.unit (s := S40894464) (k0_off14 i t) S26624.size (k0_off14_inb i t)) (fun _ => rfl)

/-- Two images fetched. -/
def dmaIn (i : grid0.Coords) (t : Fin k0_t1_loop.trips) : Tl (F := F) i PUnit := do
  Prog.lift (.enqueueDma (wIn i t) (.here sIn) (.dma cc0_scoped0.sem) (View.wordExact_bits rfl) (Memref.isWhole_whole _).wordExact ⟨Or.inl rfl, trivial⟩)
  Prog.lift (.waitDma2 cc0_scoped0.sem (wIn i t) sIn (View.wordExact_bits rfl) (Memref.isWhole_whole _).wordExact)

/-- Two padded images written out. -/
def dmaOut (i : grid0.Coords) (t : Fin k0_t1_loop.trips) : Tl (F := F) i PUnit := do
  Prog.lift (.enqueueDma sOut (.here (wOut i t)) (.dma cc0_scoped1.sem) (Memref.isWhole_whole _).wordExact (View.wordExact_bits rfl) ⟨Or.inl rfl, trivial⟩)
  Prog.lift (.waitDma2 cc0_scoped1.sem sOut (wOut i t) (Memref.isWhole_whole _).wordExact (View.wordExact_bits rfl))

/-- The mask of the right column. -/
def rz (i : grid0.Coords) : F .f32 :=
  k0_pay1 (Scalar.select (Scalar.cmpi .eq 4#32 0#32) 1#32 4#32)
    (Scalar.remsi (Scalar.addi (Scalar.muli (BitVec.ofNat 32 (i 1).val) 2#32) (BitVec.ofNat 32 (i 0).val))
      (Scalar.select (Scalar.cmpi .eq 4#32 0#32) 1#32 4#32))
    (Scalar.cmpi .ne (Scalar.remsi (Scalar.addi (Scalar.muli (BitVec.ofNat 32 (i 1).val) 2#32) (BitVec.ofNat 32 (i 0).val))
      (Scalar.select (Scalar.cmpi .eq 4#32 0#32) 1#32 4#32)) 0#32)

/-- A task makes forty-eight trips, of two images each. -/
theorem trips1 : k0_t1_loop.trips = 48 := by decide +kernel
/-- The first image of a trip has ninety-six rows. -/
theorem trips2 : k0_t2_loop.trips = 96 := by decide +kernel
/-- The second image of a trip has ninety-six rows. -/
theorem trips3 : k0_t3_loop.trips = 96 := by decide +kernel

/-- A row of the first image is one of ninety-six. -/
theorem lt2 (k : Fin k0_t2_loop.trips) : k.val < 96 := trips2 ▸ k.isLt
/-- A row of the second image is one of ninety-six. -/
theorem lt3 (k : Fin k0_t3_loop.trips) : k.val < 96 := trips3 ▸ k.isLt

/-- Row `k` of the first image, and of the second. -/
def rowA (i : grid0.Coords) (k : Fin k0_t2_loop.trips) : Tl (F := F) i Unit :=
  row i (96 * k.val) (128 * k.val + 128) (by have := lt2 k; omega) (by have := lt2 k; omega) third (lz i) (rz i)
/-- One row of the second image of a trip. -/
def rowB (i : grid0.Coords) (k : Fin k0_t3_loop.trips) : Tl (F := F) i Unit :=
  row i (96 * k.val + 9216) (128 * k.val + 13440) (by have := lt3 k; omega) (by have := lt3 k; omega) third (lz i) (rz i)

/-- One trip: two images fetched, padded one after the other, and written out. -/
def trip (i : grid0.Coords) (t : Fin k0_t1_loop.trips) : Tl (F := F) i Unit := do
  dmaIn i t
  edge i 0 0 (by omega) (by omega) third (tz i) (lz i) (rz i)
  edge i 9120 12416 (by omega) (by omega) third (bz i) (lz i) (rz i)
  Scf.Loop.for k0_t2_loop k0_t2_ok ⟨⟩ fun k _ => rowA i k
  edge i 9216 13312 (by omega) (by omega) third (tz i) (lz i) (rz i)
  edge i 18336 25728 (by omega) (by omega) third (bz i) (lz i) (rz i)
  Scf.Loop.for k0_t3_loop k0_t3_ok ⟨⟩ fun k _ => rowB i k
  dmaOut i t

/-- The whole task: sixteen zeros behind the padded row, then the trips. -/
def body (i : grid0.Coords) : Tl (F := F) i PUnit := do
  let _ ← ldPad i (offAt 96 (by omega))
  stPad i (offAt 96 (by omega)) k0_pay2
  Scf.Loop.for k0_t1_loop k0_t1_ok ⟨⟩ fun t _ => trip i t
  pure ⟨⟩

/-- Where the loads of a row of the first image start. -/
theorem off5 (k : Fin k0_t2_loop.trips) : k0_off5 k 1#32 = ![96 * k.val + 1] ∧ k0_off5 k 2#32 = ![96 * k.val + 2]
    ∧ k0_off5 k 16#32 = ![96 * k.val + 16] ∧ k0_off5 k 32#32 = ![96 * k.val + 32] ∧ k0_off5 k 48#32 = ![96 * k.val + 48]
    ∧ k0_off5 k 64#32 = ![96 * k.val + 64] ∧ k0_off5 k 80#32 = ![96 * k.val + 80] := by
  revert k; decide +kernel

/-- Where the loads of a row of the second image start. -/
theorem off11 (k : Fin k0_t3_loop.trips) : k0_off11 k 1#32 = ![96 * k.val + 9216 + 1] ∧ k0_off11 k 2#32 = ![96 * k.val + 9216 + 2]
    ∧ k0_off11 k 16#32 = ![96 * k.val + 9216 + 16] ∧ k0_off11 k 32#32 = ![96 * k.val + 9216 + 32] ∧ k0_off11 k 48#32 = ![96 * k.val + 9216 + 48]
    ∧ k0_off11 k 64#32 = ![96 * k.val + 9216 + 64] ∧ k0_off11 k 80#32 = ![96 * k.val + 9216 + 80] := by
  revert k; decide +kernel

/-- A row at offsets given one by one is the row at the offsets' values. -/
theorem rowG_eq (i : grid0.Coords) (src dst : ℕ) (hs : src + 96 ≤ 18432) (hd : dst + 98 ≤ 26624)
    {c b a l₀ l₁ l₂ q₁ q₂ q₃ q₄ q₅ : Off 18432} {dr dl d₁ e₁ e₂ e₃ e₄ e₅ : Off 26624} (v w z : F .f32)
    (hc : c.1 = ![src + 78]) (hb : b.1 = ![src + 79]) (ha : a.1 = ![src + 80]) (h₀ : l₀.1 = ![src]) (h₁ : l₁.1 = ![src + 1]) (h₂ : l₂.1 = ![src + 2])
    (hr : dr.1 = ![dst + 82]) (hl : dl.1 = ![dst]) (h₃ : d₁.1 = ![dst + 1])
    (hq₁ : q₁.1 = ![src + 16]) (hq₂ : q₂.1 = ![src + 32]) (hq₃ : q₃.1 = ![src + 48]) (hq₄ : q₄.1 = ![src + 64]) (hq₅ : q₅.1 = ![src + 80])
    (he₁ : e₁.1 = ![dst + 17]) (he₂ : e₂.1 = ![dst + 33]) (he₃ : e₃.1 = ![dst + 49]) (he₄ : e₄.1 = ![dst + 65]) (he₅ : e₅.1 = ![dst + 81]) :
    rowG i c b a l₀ l₁ l₂ dr dl d₁ (q₁, e₁) (q₂, e₂) (q₃, e₃) (q₄, e₄) (q₅, e₅) v w z = row i src dst hs hd v w z := by
  obtain ⟨_, _⟩ := c; obtain ⟨_, _⟩ := b; obtain ⟨_, _⟩ := a; obtain ⟨_, _⟩ := l₀; obtain ⟨_, _⟩ := l₁; obtain ⟨_, _⟩ := l₂
  obtain ⟨_, _⟩ := q₁; obtain ⟨_, _⟩ := q₂; obtain ⟨_, _⟩ := q₃; obtain ⟨_, _⟩ := q₄; obtain ⟨_, _⟩ := q₅
  obtain ⟨_, _⟩ := dr; obtain ⟨_, _⟩ := dl; obtain ⟨_, _⟩ := d₁
  obtain ⟨_, _⟩ := e₁; obtain ⟨_, _⟩ := e₂; obtain ⟨_, _⟩ := e₃; obtain ⟨_, _⟩ := e₄; obtain ⟨_, _⟩ := e₅
  dsimp only at *
  subst_vars
  rfl

section Eqs
variable (i : grid0.Coords)

/-- The printed row of the first image. -/
theorem part2_eq (k : Fin k0_t2_loop.trips) :
    k0_part2 i aIn (Memref.isWhole_whole _) aOut (Memref.isWhole_whole _) sIn (Memref.isWhole_whole _) sOut (Memref.isWhole_whole _) sPad
      (Memref.isWhole_whole _) cc0_scoped0 cc0_scoped1 (lz i) (rz i) (third (F := F)) 0#32 1#32 k = rowA i k := by
  have o5 := off5 k
  rw [k0_part2_eq_skeleton]
  unfold k0_part2_skel
  rw [k0_part1_eq_skeleton]
  unfold k0_part1_skel rowA
  rw [← rowG_eq i (96 * k.val) (128 * k.val + 128) _ _ third (lz i) (rz i)
    (c := ⟨k0_off2 k 18#32, k0_off2_inb k 2⟩) (b := ⟨k0_off2 k 17#32, k0_off2_inb k 1⟩) (a := ⟨k0_off2 k 16#32, k0_off2_inb k 0⟩)
    (l₀ := ⟨k0_off4 k, k0_off4_inb k⟩) (l₁ := ⟨k0_off5 k 1#32, k0_off5_inb k 0⟩) (l₂ := ⟨k0_off5 k 2#32, k0_off5_inb k 1⟩)
    (dr := ⟨k0_off3 k 82#32, k0_off3_inb k 1⟩) (dl := ⟨k0_off6 k, k0_off6_inb k⟩) (d₁ := ⟨k0_off3 k 1#32, k0_off3_inb k 0⟩)
    (q₁ := ⟨k0_off5 k 16#32, k0_off5_inb k 2⟩) (q₂ := ⟨k0_off5 k 32#32, k0_off5_inb k 3⟩) (q₃ := ⟨k0_off5 k 48#32, k0_off5_inb k 4⟩)
    (q₄ := ⟨k0_off5 k 64#32, k0_off5_inb k 5⟩) (q₅ := ⟨k0_off5 k 80#32, k0_off5_inb k 6⟩)
    (e₁ := ⟨k0_off7 k 16#32, k0_off7_inb k 0⟩) (e₂ := ⟨k0_off7 k 32#32, k0_off7_inb k 1⟩) (e₃ := ⟨k0_off7 k 48#32, k0_off7_inb k 2⟩)
    (e₄ := ⟨k0_off7 k 64#32, k0_off7_inb k 3⟩) (e₅ := ⟨k0_off7 k 80#32, k0_off7_inb k 4⟩)
    (k0_off2_eq k 2) (k0_off2_eq k 1) (k0_off2_eq k 0) (k0_off4_eq k) o5.1 o5.2.1 (k0_off3_eq k 1) (k0_off6_eq k) (k0_off3_eq k 0)
    o5.2.2.1 o5.2.2.2.1 o5.2.2.2.2.1 o5.2.2.2.2.2.1 o5.2.2.2.2.2.2
    (k0_off7_eq k 0) (k0_off7_eq k 1) (k0_off7_eq k 2) (k0_off7_eq k 3) (k0_off7_eq k 4)]
  rfl

/-- The printed row of the second image. -/
theorem part4_eq (k : Fin k0_t3_loop.trips) :
    k0_part4 i aIn (Memref.isWhole_whole _) aOut (Memref.isWhole_whole _) sIn (Memref.isWhole_whole _) sOut (Memref.isWhole_whole _) sPad
      (Memref.isWhole_whole _) cc0_scoped0 cc0_scoped1 (lz i) (rz i) (third (F := F)) 0#32 1#32 k = rowB i k := by
  have o5 := off11 k
  rw [k0_part4_eq_skeleton]
  unfold k0_part4_skel
  rw [k0_part3_eq_skeleton]
  unfold k0_part3_skel rowB
  rw [← rowG_eq i (96 * k.val + 9216) (128 * k.val + 13440) _ _ third (lz i) (rz i)
    (c := ⟨k0_off8 k 18#32, k0_off8_inb k 2⟩) (b := ⟨k0_off8 k 17#32, k0_off8_inb k 1⟩) (a := ⟨k0_off8 k 16#32, k0_off8_inb k 0⟩)
    (l₀ := ⟨k0_off10 k, k0_off10_inb k⟩) (l₁ := ⟨k0_off11 k 1#32, k0_off11_inb k 0⟩) (l₂ := ⟨k0_off11 k 2#32, k0_off11_inb k 1⟩)
    (dr := ⟨k0_off9 k 82#32, k0_off9_inb k 1⟩) (dl := ⟨k0_off12 k, k0_off12_inb k⟩) (d₁ := ⟨k0_off9 k 1#32, k0_off9_inb k 0⟩)
    (q₁ := ⟨k0_off11 k 16#32, k0_off11_inb k 2⟩) (q₂ := ⟨k0_off11 k 32#32, k0_off11_inb k 3⟩) (q₃ := ⟨k0_off11 k 48#32, k0_off11_inb k 4⟩)
    (q₄ := ⟨k0_off11 k 64#32, k0_off11_inb k 5⟩) (q₅ := ⟨k0_off11 k 80#32, k0_off11_inb k 6⟩)
    (e₁ := ⟨k0_off13 k 16#32, k0_off13_inb k 0⟩) (e₂ := ⟨k0_off13 k 32#32, k0_off13_inb k 1⟩) (e₃ := ⟨k0_off13 k 48#32, k0_off13_inb k 2⟩)
    (e₄ := ⟨k0_off13 k 64#32, k0_off13_inb k 3⟩) (e₅ := ⟨k0_off13 k 80#32, k0_off13_inb k 4⟩)
    (k0_off8_eq k 2) (k0_off8_eq k 1) (k0_off8_eq k 0) (k0_off10_eq k) o5.1 o5.2.1 (k0_off9_eq k 1) (k0_off12_eq k) (k0_off9_eq k 0)
    o5.2.2.1 o5.2.2.2.1 o5.2.2.2.2.1 o5.2.2.2.2.2.1 o5.2.2.2.2.2.2
    (k0_off13_eq k 0) (k0_off13_eq k 1) (k0_off13_eq k 2) (k0_off13_eq k 3) (k0_off13_eq k 4)]
  rfl

/-- The printed trip is ours. -/
theorem trip_eq (v1 v29 v30 : BitVec 32) (v31 : BitVec 1) (hr : k0_pay1 v29 v30 v31 = rz (F := F) i) (t : Fin k0_t1_loop.trips) (u : Unit) :
    k0_t1_body i aIn (Memref.isWhole_whole _) aOut (Memref.isWhole_whole _) sIn (Memref.isWhole_whole _) sOut (Memref.isWhole_whole _) sPad
      (Memref.isWhole_whole _) cc0_scoped0 cc0_scoped1 v1 (tz i) (bz i) (lz i) v29 v30 v31 (third (F := F)) t u = trip i t := by
  have e2 : ∀ a b c, k0_t2_body i aIn (Memref.isWhole_whole _) aOut (Memref.isWhole_whole _) sIn (Memref.isWhole_whole _) sOut (Memref.isWhole_whole _) sPad
      (Memref.isWhole_whole _) cc0_scoped0 cc0_scoped1 a (lz i) (rz i) (third (F := F)) b c = fun k _ => rowA i k := by
    intro a b c
    funext k _
    unfold k0_t2_body
    rw [part2_eq]
    exact bind_pure _
  have e3 : k0_t3_body i aIn (Memref.isWhole_whole _) aOut (Memref.isWhole_whole _) sIn (Memref.isWhole_whole _) sOut (Memref.isWhole_whole _) sPad
      (Memref.isWhole_whole _) cc0_scoped0 cc0_scoped1 (lz i) v29 v30 v31 (third (F := F)) = fun k _ => rowB i k := by
    funext k _
    unfold k0_t3_body
    rw [hr, part4_eq]
    exact bind_pure _
  unfold k0_t1_body
  rw [hr, e3]
  simp only [k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton]
  unfold k0_part5_skel k0_part6_skel k0_part7_skel k0_part8_skel k0_part9_skel k0_part10_skel k0_part11_skel k0_part12_skel k0_part13_skel
  simp only [e2, bind_assoc, pure_bind]
  unfold trip dmaIn dmaOut edge
  simp only [padCopy, means, bind_assoc, pure_bind]
  rfl

/-- The printed body is ours. -/
theorem body_eq :
    cc0__body i aIn (Memref.isWhole_whole _) aOut (Memref.isWhole_whole _) sIn (Memref.isWhole_whole _) sOut (Memref.isWhole_whole _) sPad
      (Memref.isWhole_whole _) cc0_scoped0 cc0_scoped1 = body (F := F) i := by
  rw [cc0__body_eq_skeleton]
  unfold cc0__body_skel
  rw [k0_part14_eq_skeleton]
  unfold k0_part14_skel
  simp only [pure_bind]
  have e : ∀ v1 v29 v30 v31, k0_pay1 v29 v30 v31 = rz (F := F) i →
      k0_t1_body i aIn (Memref.isWhole_whole _) aOut (Memref.isWhole_whole _) sIn (Memref.isWhole_whole _) sOut (Memref.isWhole_whole _) sPad
      (Memref.isWhole_whole _) cc0_scoped0 cc0_scoped1 v1 (tz i) (bz i) (lz i) v29 v30 v31 (third (F := F)) = fun t _ => trip i t := fun v1 v29 v30 v31 h => by
    funext t u
    exact trip_eq i v1 v29 v30 v31 h t u
  unfold body
  rw [← e _ _ _ _ rfl]
  rfl

end Eqs

end Cert.KernelIdeal.Pad
-- ==== Proof.KernelIdeal.Trip.lean ====
/-
  One trip of the kernel: two images fetched, padded and written out; and the pixels it leaves.
-/
module

public import proofs.«01_k».proof.Proof.KernelIdeal.Body

@[expose] public section

noncomputable section

namespace Cert.KernelIdeal.Pad

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The pixels -/

/-- The zero the padded row ends with. -/
def zf : F .f32 := Scalar.ofBits .f32 0x0#32

/-- An image row followed by zeros. -/
def rowpad (x : ℕ → F .f32) : ℕ → F .f32 := fun k => if k < 96 then x k else zf

/-- The padded image at row `h` and column `c`, from the image `x` and the four masks. -/
def pix (third tz bz lz rz : F .f32) (x : ℕ → F .f32) (h c : ℕ) : F .f32 :=
  if h = 0 then edgeVal third tz lz rz (rowpad x) c
  else if h = 97 then edgeVal third bz lz rz (rowpad fun k => x (9120 + k)) c
  else rowVal third lz rz (fun k => x (96 * (h - 1) + k)) c

/-- `g` with the first `n` interior rows of the result computed. -/
def rowsTo (src dst : ℕ) (third lz rz : F .f32) (x : ℕ → F .f32) (n : ℕ) (g : ℕ → F .f32) : ℕ → F .f32 := fun k =>
  if dst ≤ k ∧ k < dst + 128 * n ∧ (k - dst) % 128 < 98 then
    rowVal third lz rz (fun j => x (src + 96 * ((k - dst) / 128) + j)) ((k - dst) % 128) else g k

/-- A position of the row put. -/
theorem putRow_hit (dst : ℕ) (h g : ℕ → F .f32) (c : ℕ) (hc : c < 98) : putRow dst h g (dst + c) = h c := by
  unfold putRow
  rw [if_pos (by omega), Nat.add_sub_cancel_left]

/-- A position outside of the row put. -/
theorem putRow_miss (dst : ℕ) (h g : ℕ → F .f32) (n : ℕ) (hn : n < dst ∨ dst + 98 ≤ n) : putRow dst h g n = g n := by
  unfold putRow
  rw [if_neg (by omega)]

/-- A position of an inner row computed. -/
theorem rowsTo_hit (src dst : ℕ) (third lz rz : F .f32) (x : ℕ → F .f32) (n : ℕ) (g : ℕ → F .f32) (h c : ℕ) (hh : h < n) (hc : c < 98) :
    rowsTo src dst third lz rz x n g (dst + 128 * h + c) = rowVal third lz rz (fun j => x (src + 96 * h + j)) c := by
  unfold rowsTo
  rw [if_pos (by omega), show (dst + 128 * h + c - dst) / 128 = h by omega, show (dst + 128 * h + c - dst) % 128 = c by omega]

/-- A position outside of the inner rows computed. -/
theorem rowsTo_miss (src dst : ℕ) (third lz rz : F .f32) (x : ℕ → F .f32) (n : ℕ) (g : ℕ → F .f32) (k : ℕ) (hk : k < dst ∨ dst + 128 * n ≤ k) :
    rowsTo src dst third lz rz x n g k = g k := by
  unfold rowsTo
  rw [if_neg (by omega)]

/-- No rows are computed at first. -/
theorem rowsTo_zero (src dst : ℕ) (third lz rz : F .f32) (x : ℕ → F .f32) (g : ℕ → F .f32) : rowsTo src dst third lz rz x 0 g = g :=
  funext fun k => if_neg (by omega)

/-- One more row computed. -/
theorem rowsTo_succ (src dst : ℕ) (third lz rz : F .f32) (x : ℕ → F .f32) (n : ℕ) (g : ℕ → F .f32) :
    rowsTo src dst third lz rz x (n + 1) g
      = putRow (dst + 128 * n) (rowVal third lz rz fun j => x (src + 96 * n + j)) (rowsTo src dst third lz rz x n g) := by
  funext k
  by_cases h : dst + 128 * n ≤ k ∧ k < dst + 128 * n + 98
  · obtain ⟨c, rfl⟩ := Nat.exists_eq_add_of_le h.1
    rw [putRow_hit _ _ _ _ (by omega), rowsTo_hit _ _ _ _ _ _ _ _ _ _ (by omega) (by omega)]
  · rw [putRow_miss _ _ _ _ (by omega)]
    unfold rowsTo
    by_cases h' : dst ≤ k ∧ k < dst + 128 * n ∧ (k - dst) % 128 < 98
    · rw [if_pos (by omega), if_pos h']
    · rw [if_neg (by omega), if_neg h']

/-- An edge row depends on the padded row only up to position ninety-seven. -/
theorem edgeVal_congr (third mz lz rz : F .f32) {p q : ℕ → F .f32} (h : ∀ k < 98, p k = q k) {c : ℕ} (hc : c < 98) :
    edgeVal third mz lz rz p c = edgeVal third mz lz rz q c := by
  unfold edgeVal
  by_cases h0 : c = 0
  · rw [if_pos h0, if_pos h0, h 0 (by omega)]
  by_cases h1 : c = 97
  · rw [if_neg h0, if_neg h0, if_pos h1, if_pos h1, h 95 (by omega)]
  rw [if_neg h0, if_neg h0, if_neg h1, if_neg h1, h (c - 1) (by omega), h c (by omega), h (c + 1) (by omega)]

/-- The padded row ends in zeros. -/
def Tail (p : ℕ → F .f32) : Prop := ∀ k, 96 ≤ k → k < 112 → p k = zf

/-- Copying a row keeps the zeros after it. -/
theorem tail_padded {x p : ℕ → F .f32} {src : ℕ} (h : Tail p) : Tail (padded x src 6 p) := fun k h1 h2 => by
  unfold padded
  rw [if_neg (by omega)]
  exact h k h1 h2

/-- The padded row holds the copied row followed by zeros. -/
theorem padded_eq {x p : ℕ → F .f32} {src : ℕ} (h : Tail p) : ∀ k < 98, padded x src 6 p k = rowpad (fun j => x (src + j)) k := fun k hk => by
  unfold padded rowpad
  by_cases h' : k < 96
  · rw [if_pos (by omega), if_pos h']
  · rw [if_neg (by omega), if_neg h', h k (by omega) (by omega)]

/-- The zeros are stored at the start. -/
theorem tail_put (p : ℕ → F .f32) : Tail (put 96 (fun _ => zf) p) := fun k h1 h2 => if_pos ⟨h1, by omega⟩

/-- The output scratch after a trip, from the input scratch `x`. -/
def tripOut (third tz bz lz rz : F .f32) (x p g : ℕ → F .f32) : ℕ → F .f32 :=
  let p₁ := padded x 0 6 p
  let p₂ := padded x 9120 6 p₁
  let p₃ := padded x 9216 6 p₂
  let p₄ := padded x 18336 6 p₃
  rowsTo 9216 13440 third lz rz x 96 <| putRow 25728 (edgeVal third bz lz rz p₄) <| putRow 13312 (edgeVal third tz lz rz p₃) <|
    rowsTo 0 128 third lz rz x 96 <| putRow 12416 (edgeVal third bz lz rz p₂) <| putRow 0 (edgeVal third tz lz rz p₁) g

/-- The padded row after a trip. -/
def tripPad (x p : ℕ → F .f32) : ℕ → F .f32 := padded x 18336 6 (padded x 9216 6 (padded x 9120 6 (padded x 0 6 p)))

/-- A trip keeps the zeros. -/
theorem tail_trip {x p : ℕ → F .f32} (h : Tail p) : Tail (tripPad x p) := tail_padded (tail_padded (tail_padded (tail_padded h)))

/-- After a trip the output scratch holds the two padded images. -/
theorem tripOut_eq (third tz bz lz rz : F .f32) (x p g : ℕ → F .f32) (hp : Tail p) (im h c : ℕ) (him : im < 2) (hh : h < 98) (hc : c < 98) :
    tripOut third tz bz lz rz x p g (13312 * im + 128 * h + c) = pix third tz bz lz rz (fun k => x (9216 * im + k)) h c := by
  unfold tripOut pix
  have t1 : Tail (padded x 0 6 p) := tail_padded hp
  have t2 : Tail (padded x 9120 6 (padded x 0 6 p)) := tail_padded t1
  have t3 : Tail (padded x 9216 6 (padded x 9120 6 (padded x 0 6 p))) := tail_padded t2
  dsimp only
  by_cases i0 : im = 0
  · subst i0
    rw [rowsTo_miss _ _ _ _ _ _ _ _ _ (by omega), putRow_miss _ _ _ _ (by omega), putRow_miss _ _ _ _ (by omega)]
    by_cases h0 : h = 0
    · subst h0
      rw [if_pos rfl, rowsTo_miss _ _ _ _ _ _ _ _ _ (by omega), putRow_miss _ _ _ _ (by omega),
        show 13312 * 0 + 128 * 0 + c = 0 + c by omega, putRow_hit _ _ _ _ hc]
      exact edgeVal_congr _ _ _ _ (fun k hk => (padded_eq hp k hk).trans (by simp only [Nat.mul_zero])) hc
    rw [if_neg h0]
    by_cases h1 : h = 97
    · subst h1
      rw [if_pos rfl, rowsTo_miss _ _ _ _ _ _ _ _ _ (by omega),
        show 13312 * 0 + 128 * 97 + c = 12416 + c by omega, putRow_hit _ _ _ _ hc]
      exact edgeVal_congr _ _ _ _ (fun k hk => (padded_eq t1 k hk).trans (by simp only [Nat.mul_zero, Nat.zero_add])) hc
    rw [if_neg h1, show 13312 * 0 + 128 * h + c = 128 + 128 * (h - 1) + c by omega, rowsTo_hit _ _ _ _ _ _ _ _ _ _ (by omega) hc]
    simp only [Nat.mul_zero, Nat.zero_add]
  · obtain rfl : im = 1 := by omega
    by_cases h0 : h = 0
    · subst h0
      rw [if_pos rfl, rowsTo_miss _ _ _ _ _ _ _ _ _ (by omega), putRow_miss _ _ _ _ (by omega),
        show 13312 * 1 + 128 * 0 + c = 13312 + c by omega, putRow_hit _ _ _ _ hc]
      exact edgeVal_congr _ _ _ _ (fun k hk => padded_eq t2 k hk) hc
    rw [if_neg h0]
    by_cases h1 : h = 97
    · subst h1
      rw [if_pos rfl, rowsTo_miss _ _ _ _ _ _ _ _ _ (by omega),
        show 13312 * 1 + 128 * 97 + c = 25728 + c by omega, putRow_hit _ _ _ _ hc]
      exact edgeVal_congr _ _ _ _ (fun k hk => (padded_eq t3 k hk).trans
        (congrArg (fun f => rowpad f k) (funext fun j => congrArg x (by omega)))) hc
    rw [if_neg h1, show 13312 * 1 + 128 * h + c = 13440 + 128 * (h - 1) + c by omega, rowsTo_hit _ _ _ _ _ _ _ _ _ _ (by omega) hc]
    simp only [Nat.mul_one, Nat.add_assoc]

/-! ## The loops over rows -/

section Rules
variable [Named F] (d : Dev nD) (i : grid0.Coords)

/-- The inner rows of the first image of a trip. -/
theorem wp_rowsA (x g : ℕ → F .f32) {Q : PUnit → sProp 𝕄} :
    iprop(inPts d i x ∗ outPts d i g)
      ⊢ iprop((iprop(inPts d i x ∗ outPts d i (rowsTo 0 128 third (lz i) (rz i) x 96 g)) -∗ Q ⟨⟩)
          -∗ WP d i (Scf.Loop.for k0_t2_loop k0_t2_ok ⟨⟩ fun k _ => rowA i k) Q) := by
  iintro H Hk
  iapply (Scf.wp_for frame (wpE (defs₀ (F := F)) 𝒱₀ (th d i) none) Set.univ _ _ _ k0_t2_ok _ _
    (fun n _ => iprop(inPts d i x ∗ outPts d i (rowsTo 0 128 third (lz i) (rz i) x n g))) ?_)
  · intro k _
    rw [rowsTo_succ]
    have e : rowA (F := F) i k = row i (0 + 96 * k.val) (128 + 128 * k.val) (by have := lt2 k; omega) (by have := lt2 k; omega) third (lz i) (rz i) := by
      unfold rowA; congr 1 <;> omega
    rw [e]
    iintro H
    iapply (wp_row d i _ _ _ _ _ _ _ _ _) $$ H
    iintro H
    iexact H
  · isplitl [H]
    · rw [rowsTo_zero]; iexact H
    · iintro %_ H
      rw [show Scf.trips k0_t2_loop.lb k0_t2_loop.ub k0_t2_loop.st = 96 from trips2]
      iapply Hk
      iexact H

/-- The inner rows of the second image of a trip. -/
theorem wp_rowsB (x g : ℕ → F .f32) {Q : PUnit → sProp 𝕄} :
    iprop(inPts d i x ∗ outPts d i g)
      ⊢ iprop((iprop(inPts d i x ∗ outPts d i (rowsTo 9216 13440 third (lz i) (rz i) x 96 g)) -∗ Q ⟨⟩)
          -∗ WP d i (Scf.Loop.for k0_t3_loop k0_t3_ok ⟨⟩ fun k _ => rowB i k) Q) := by
  iintro H Hk
  iapply (Scf.wp_for frame (wpE (defs₀ (F := F)) 𝒱₀ (th d i) none) Set.univ _ _ _ k0_t3_ok _ _
    (fun n _ => iprop(inPts d i x ∗ outPts d i (rowsTo 9216 13440 third (lz i) (rz i) x n g))) ?_)
  · intro k _
    rw [rowsTo_succ]
    have e : rowB (F := F) i k = row i (9216 + 96 * k.val) (13440 + 128 * k.val) (by have := lt3 k; omega) (by have := lt3 k; omega) third (lz i) (rz i) := by
      unfold rowB; congr 1 <;> omega
    rw [e]
    iintro H
    iapply (wp_row d i _ _ _ _ _ _ _ _ _) $$ H
    iintro H
    iexact H
  · isplitl [H]
    · rw [rowsTo_zero]; iexact H
    · iintro %_ H
      rw [show Scf.trips k0_t3_loop.lb k0_t3_loop.ub k0_t3_loop.st = 96 from trips3]
      iapply Hk
      iexact H

/-! ## The transfers -/

/-- The group of ninety-six images a task pads. -/
def grp : ℕ := 2 * (i 1).val + (i 0).val

/-- The elements of `main_v0` a task reads, and those of `main_v1` it writes. -/
def inSet : Finset S28311552.Idx := Finset.univ.filter fun j => (j 0).val / 884736 = grp i
/-- The elements of the flat result that a task writes. -/
def outSet : Finset S40894464.Idx := Finset.univ.filter fun j => (j 0).val / 1277952 = grp i

/-- A task's part of the operand, and of the result. -/
abbrev xPts (X : ℕ → F .f32) : sProp 𝕄 := (aIn.view.loc (th d i)) ↦[inSet i]{fullShare} (buf X : S28311552.Idx → F .f32)
abbrev yPts (G : ℕ → F .f32) : sProp 𝕄 := (aOut.view.loc (th d i)) ↦[outSet i]{fullShare} (buf G : S40894464.Idx → F .f32)

/-- What a task owes, its own waits recorded. -/
abbrev owesB (O : CellTallies nD τ sig (HIx 1)) (W : Waits sig (HIx 1)) : sProp 𝕄 :=
  iprop(∃ W', ⌜∀ p ∈ W', p ∈ W ∨ p.2 = none⌝ ∗ owes (th d i) O W')

/-- A trip is one of forty-eight. -/
theorem lt1 (t : Fin k0_t1_loop.trips) : t.val < 48 := trips1 ▸ t.isLt

/-- Where a trip's images start in the argument. -/
theorem off1_grp (t : Fin k0_t1_loop.trips) : k0_off1 i t 0 = 884736 * grp i + 18432 * t.val := by
  rw [k0_off1_eq]; unfold grp; show _ + _ + _ = _; omega

/-- Where a trip's padded images start in the result. -/
theorem off14_grp (t : Fin k0_t1_loop.trips) : k0_off14 i t 0 = 1277952 * grp i + 26624 * t.val := by
  rw [k0_off14_eq]; unfold grp; show _ + _ + _ = _; omega

/-- A trip reads the task's part of the argument. -/
theorem wIn_set (t : Fin k0_t1_loop.trips) : (wIn i t).view.set ⊆ inSet i := by
  intro j hj
  obtain ⟨x, _, rfl⟩ := Finset.mem_map.mp hj
  have hx : (x 0).val < 18432 := (x 0).isLt
  have h := off1_grp i t
  have ht := lt1 t
  refine Finset.mem_filter.mpr ⟨Finset.mem_univ _, ?_⟩
  show (k0_off1 i t 0 + 1 * (x 0).val) / 884736 = _
  omega

/-- A trip writes the task's part of the result. -/
theorem wOut_set (t : Fin k0_t1_loop.trips) : (wOut i t).view.set ⊆ outSet i := by
  intro j hj
  obtain ⟨x, _, rfl⟩ := Finset.mem_map.mp hj
  have hx : (x 0).val < 26624 := (x 0).isLt
  have h := off14_grp i t
  have ht := lt1 t
  refine Finset.mem_filter.mpr ⟨Finset.mem_univ _, ?_⟩
  show (k0_off14 i t 0 + 1 * (x 0).val) / 1277952 = _
  omega

/-- `G` with the window at `o` replaced by `g`. -/
def window (o : ℕ) (g G : ℕ → F .f32) : ℕ → F .f32 := fun n => if o ≤ n ∧ n < o + 26624 then g (n - o) else G n

/-- The copy of two images into the input scratch. -/
theorem wp_dmaIn (t : Fin k0_t1_loop.trips) (O : CellTallies nD τ sig (HIx 1)) (W : Waits sig (HIx 1)) (X g : ℕ → F .f32) {Q : PUnit → sProp 𝕄} :
    iprop(Transfers.MayWaits (th d i) (none : HIx 1) O ∗ xPts d i X ∗ inPts d i g ∗ semVal (th d i, SemLoc.dma cc0_scoped0.sem) 0 ∗ owesB d i O W)
      ⊢ iprop((iprop(xPts d i X ∗ inPts d i (fun n => X (884736 * grp i + 18432 * t.val + n)) ∗ semVal (th d i, SemLoc.dma cc0_scoped0.sem) 0 ∗ owesB d i O W) -∗ Q ⟨⟩)
          -∗ WP d i (dmaIn i t) Q) := by
  have e : (ReadAs.same : ReadAs (Elt F) S18432 .f32 S18432 .f32).apply ((wIn i t).view.read (Elt F) (buf X : S28311552.Idx → F .f32))
      = (buf (fun n => X (884736 * grp i + 18432 * t.val + n)) : S18432.Idx → F .f32) := by
    funext j
    show X (k0_off1 i t 0 + 1 * (j 0).val) = X _
    rw [off1_grp, Nat.one_mul]
  have e' : sIn.view.write (Elt F) (buf g : S18432.Idx → F .f32)
        ((ReadAs.same : ReadAs (Elt F) S18432 .f32 S18432 .f32).apply ((wIn i t).view.read (Elt F) (buf X : S28311552.Idx → F .f32))) Finset.univ
      = (buf (fun n => X (884736 * grp i + 18432 * t.val + n)) : S18432.Idx → F .f32) := (View.write_whole_univ (Val := Elt F) _ _ _).trans e
  unfold dmaIn
  rw [WP_bind]
  unfold Prog.lift
  iintro ⟨Hmw, Hx, Hin, Hsem, %W', %hW', HO⟩ Hk
  ihave Hx := (pointsTo_split_subset (ℓ := aIn.view.loc (th d i)) (f := (buf X : S28311552.Idx → F .f32)) (q := fullShare) (wIn_set i t)).1 $$ Hx
  icases Hx with ⟨Hx, Hrest⟩
  iapply (Transfers.wp_dmaLocal countersEmb 𝒱₀ (th d i) none (src := wIn i t) (dst := sIn) (sm := .dma cc0_scoped0.sem) (Sd := Finset.univ) (none : HIx 1) _ rfl
    (View.amount_pos _ _ (show 0 < S18432.numel by decide)) (Finset.subset_univ _)) $$ [Hx Hin Hsem]
  · isplitl [Hx]; · iexact Hx
    isplitl [Hin]; · iexact Hin
    iexact Hsem
  iintro Hfl
  rw [wp_ret]
  imodintro
  iapply (Transfers.wp_waitLocalO countersEmb 𝒱₀ (th d i) none (none : HIx 1) rfl) $$ [Hfl HO Hmw]
  · isplitl [Hfl]; · iexact Hfl
    isplitl [HO]; · iexact HO
    iapply (Transfers.MayWaits.elim (SemLoc.dma cc0_scoped0.sem)) $$ Hmw
  iintro ⟨⟨Hin, Hx⟩, Hsem, HO⟩
  rw [wp_ret]
  imodintro
  iapply Hk
  isplitl [Hx Hrest]
  · iapply (pointsTo_split_subset (ℓ := aIn.view.loc (th d i)) (f := (buf X : S28311552.Idx → F .f32)) (q := fullShare) (wIn_set i t)).2
    isplitl [Hx]; · iexact Hx
    iexact Hrest
  isplitl [Hin]
  · iapply (Entails.of_eq (congrArg (fun f => (sIn.view.loc (th d i)) ↦[Finset.univ]{fullShare} f) e'))
    iexact Hin
  isplitl [Hsem]; · iexact Hsem
  iexists (insert (SemLoc.dma cc0_scoped0.sem, (none : HIx 1)) W')
  isplitr
  · ipureintro; intro p hp
    rcases Finset.mem_insert.mp hp with hp | hp
    · exact .inr (hp ▸ rfl)
    · exact hW' p hp
  · iexact HO

/-- The copy of two padded images out of the output scratch. -/
theorem wp_dmaOut (t : Fin k0_t1_loop.trips) (O : CellTallies nD τ sig (HIx 1)) (W : Waits sig (HIx 1)) (G g : ℕ → F .f32) {Q : PUnit → sProp 𝕄} :
    iprop(Transfers.MayWaits (th d i) (none : HIx 1) O ∗ yPts d i G ∗ outPts d i g ∗ semVal (th d i, SemLoc.dma cc0_scoped1.sem) 0 ∗ owesB d i O W)
      ⊢ iprop((iprop(yPts d i (window (1277952 * grp i + 26624 * t.val) g G) ∗ outPts d i g ∗ semVal (th d i, SemLoc.dma cc0_scoped1.sem) 0 ∗ owesB d i O W) -∗ Q ⟨⟩)
          -∗ WP d i (dmaOut i t) Q) := by
  have e : (wOut i t).view.write (Elt F) (buf G : S40894464.Idx → F .f32)
        ((ReadAs.same : ReadAs (Elt F) S26624 .f32 S26624 .f32).apply (sOut.view.read (Elt F) (buf g : S26624.Idx → F .f32))) Finset.univ
      = (buf (window (1277952 * grp i + 26624 * t.val) g G) : S40894464.Idx → F .f32) := by
    have ho := off14_grp i t
    funext j
    by_cases hj : 1277952 * grp i + 26624 * t.val ≤ (j 0).val ∧ (j 0).val < 1277952 * grp i + 26624 * t.val + 26624
    · obtain ⟨x, hx, hv⟩ : ∃ x : S26624.Idx, (wOut i t).view.emb x = j ∧ (x 0).val = (j 0).val - (1277952 * grp i + 26624 * t.val) := by
        refine ⟨fun a => ⟨(j 0).val - (1277952 * grp i + 26624 * t.val), by obtain rfl : a = 0 := Subsingleton.elim _ _; show _ < 26624; omega⟩, ?_, rfl⟩
        funext a
        obtain rfl : a = (0 : Fin 1) := Subsingleton.elim (α := Fin 1) _ _
        refine Fin.ext ?_
        show k0_off14 i t 0 + 1 * ((j 0).val - (1277952 * grp i + 26624 * t.val)) = (j 0).val
        omega
      rw [← hx]
      refine (View.write_emb_of_mem (v := (wOut i t).view) (Val := Elt F) _ _ (Finset.mem_univ x)).trans ?_
      rw [hx]
      refine Eq.trans ?_ (if_pos hj).symm
      rw [← hv]
      rfl
    · refine (View.write_of_not_mem _ _ _ fun hm => hj ?_).trans (if_neg hj).symm
      obtain ⟨x, _, rfl⟩ := Finset.mem_map.mp hm
      have hx : (x 0).val < 26624 := (x 0).isLt
      show _ ≤ k0_off14 i t 0 + 1 * (x 0).val ∧ k0_off14 i t 0 + 1 * (x 0).val < _
      omega
  unfold dmaOut
  rw [WP_bind]
  unfold Prog.lift
  iintro ⟨Hmw, Hy, Hout, Hsem, %W', %hW', HO⟩ Hk
  have hs : sOut.view.set = Finset.univ := View.set_whole _
  iapply (Transfers.wp_dmaLocal countersEmb 𝒱₀ (th d i) none (src := sOut) (dst := wOut i t) (sm := .dma cc0_scoped1.sem) (Sd := outSet i) (none : HIx 1) _ rfl
    (View.amount_pos _ _ (show 0 < S26624.numel by decide)) (wOut_set i t)) $$ [Hy Hout Hsem]
  · isplitl [Hout]; · rw [hs]; iexact Hout
    isplitl [Hy]; · iexact Hy
    iexact Hsem
  iintro Hfl
  rw [wp_ret]
  imodintro
  iapply (Transfers.wp_waitLocalO countersEmb 𝒱₀ (th d i) none (none : HIx 1) rfl) $$ [Hfl HO Hmw]
  · isplitl [Hfl]; · iexact Hfl
    isplitl [HO]; · iexact HO
    iapply (Transfers.MayWaits.elim (SemLoc.dma cc0_scoped1.sem)) $$ Hmw
  iintro ⟨⟨Hy, Hout⟩, Hsem, HO⟩
  rw [wp_ret, hs]
  imodintro
  iapply Hk
  isplitl [Hy]
  · iapply (Entails.of_eq (congrArg (fun f => (aOut.view.loc (th d i)) ↦[outSet i]{fullShare} f) e))
    iexact Hy
  isplitl [Hout]; · iexact Hout
  isplitl [Hsem]; · iexact Hsem
  iexists (insert (SemLoc.dma cc0_scoped1.sem, (none : HIx 1)) W')
  isplitr
  · ipureintro; intro p hp
    rcases Finset.mem_insert.mp hp with hp | hp
    · exact .inr (hp ▸ rfl)
    · exact hW' p hp
  · iexact HO

/-! ## The trip, and the whole task -/

/-- The padded image a task computes, from the image `x`. -/
def pixel (x : ℕ → F .f32) (h c : ℕ) : F .f32 := pix third (tz i) (bz i) (lz i) (rz i) x h c

/-- The first `n` images of the task are padded in `G`, from the images in `X`. -/
def Done (X G : ℕ → F .f32) (n : ℕ) : Prop :=
  ∀ im h c, im < n → h < 98 → c < 98 →
    G (1277952 * grp i + 13312 * im + 128 * h + c) = pixel i (fun k => X (884736 * grp i + 9216 * im + k)) h c

/-- A trip pads two images more. -/
theorem done_step (t : ℕ) (X x p g G : ℕ → F .f32) (hp : Tail p) (hx : x = fun n => X (884736 * grp i + 18432 * t + n)) (hG : Done i X G (2 * t)) :
    Done i X (window (1277952 * grp i + 26624 * t) (tripOut third (tz i) (bz i) (lz i) (rz i) x p g) G) (2 * (t + 1)) := by
  intro im h c him hh hc
  unfold window
  by_cases hm : im < 2 * t
  · rw [if_neg (by omega)]
    exact hG im h c hm hh hc
  · rw [if_pos (by omega), show 1277952 * grp i + 13312 * im + 128 * h + c - (1277952 * grp i + 26624 * t) = 13312 * (im - 2 * t) + 128 * h + c by omega,
      tripOut_eq _ _ _ _ _ _ _ _ hp _ _ _ (by omega) hh hc, hx]
    unfold pixel
    exact congrArg (fun f => pix third (tz i) (bz i) (lz i) (rz i) f h c) (funext fun k => congrArg X (by omega))

/-- What holds before trip `n`. -/
def inv (O : CellTallies nD τ sig (HIx 1)) (W : Waits sig (HIx 1)) (X : ℕ → F .f32) (n : ℕ) : sProp 𝕄 :=
  iprop(Transfers.MayWaits (th d i) (none : HIx 1) O ∗ xPts d i X
    ∗ (∃ G, ⌜Done i X G (2 * n)⌝ ∗ yPts d i G)
    ∗ (∃ x, inPts d i x) ∗ (∃ g, outPts d i g) ∗ (∃ p, ⌜Tail p⌝ ∗ padPts d i p)
    ∗ semVal (th d i, SemLoc.dma cc0_scoped0.sem) 0 ∗ semVal (th d i, SemLoc.dma cc0_scoped1.sem) 0 ∗ owesB d i O W)

/-- A whole trip: two images read, padded and written. -/
theorem wp_trip (t : Fin k0_t1_loop.trips) (O : CellTallies nD τ sig (HIx 1)) (W : Waits sig (HIx 1)) (X : ℕ → F .f32) :
    inv d i O W X t.val ⊢ WP d i (trip i t) fun _ => inv d i O W X (t.val + 1) := by
  unfold inv trip
  rw [WP_bind]
  iintro ⟨#Hmw, Hx, ⟨%G, %hG, Hy⟩, ⟨%x, Hin⟩, ⟨%g, Hout⟩, ⟨%p, %hp, Hpad⟩, Hs0, Hs1, HO⟩
  iapply (wp_dmaIn d i t O W X x) $$ [Hx Hin Hs0 HO]
  · isplitr; · iexact Hmw
    isplitl [Hx]; · iexact Hx
    isplitl [Hin]; · iexact Hin
    isplitl [Hs0]; · iexact Hs0
    iexact HO
  iintro ⟨Hx, Hin, Hs0, HO⟩
  rw [WP_bind]
  iapply (wp_edge d i _ _ _ _ _ _ _ _ _ _ _) $$ [Hin Hpad Hout]
  · isplitl [Hin]; · iexact Hin
    isplitl [Hpad]; · iexact Hpad
    iexact Hout
  iintro H
  rw [WP_bind]
  iapply (wp_edge d i _ _ _ _ _ _ _ _ _ _ _) $$ H
  iintro ⟨Hin, Hpad, Hout⟩
  rw [WP_bind]
  iapply (wp_rowsA d i _ _) $$ [Hin Hout]
  · isplitl [Hin]; · iexact Hin
    iexact Hout
  iintro ⟨Hin, Hout⟩
  rw [WP_bind]
  iapply (wp_edge d i _ _ _ _ _ _ _ _ _ _ _) $$ [Hin Hpad Hout]
  · isplitl [Hin]; · iexact Hin
    isplitl [Hpad]; · iexact Hpad
    iexact Hout
  iintro H
  rw [WP_bind]
  iapply (wp_edge d i _ _ _ _ _ _ _ _ _ _ _) $$ H
  iintro ⟨Hin, Hpad, Hout⟩
  rw [WP_bind]
  iapply (wp_rowsB d i _ _) $$ [Hin Hout]
  · isplitl [Hin]; · iexact Hin
    iexact Hout
  iintro ⟨Hin, Hout⟩
  iapply (wp_dmaOut d i t O W G _) $$ [Hy Hout Hs1 HO]
  · isplitr; · iexact Hmw
    isplitl [Hy]; · iexact Hy
    isplitl [Hout]; · iexact Hout
    isplitl [Hs1]; · iexact Hs1
    iexact HO
  iintro ⟨Hy, Hout, Hs1, HO⟩
  isplitr; · iexact Hmw
  isplitl [Hx]; · iexact Hx
  isplitl [Hy]
  · iexists _
    isplitr
    · ipureintro; exact done_step i t.val X _ p g G hp rfl hG
    · iexact Hy
  isplitl [Hin]; · iexists _; iexact Hin
  isplitl [Hout]; · iexists _; iexact Hout
  isplitl [Hpad]
  · iexists (tripPad (fun n => X (884736 * grp i + 18432 * t.val + n)) p)
    isplitr
    · ipureintro; exact tail_trip hp
    · iexact Hpad
  isplitl [Hs0]; · iexact Hs0
  isplitl [Hs1]; · iexact Hs1
  iexact HO

/-- The whole task pads its ninety-six images. -/
theorem wp_body (O : CellTallies nD τ sig (HIx 1)) (W : Waits sig (HIx 1)) (X G x g p : ℕ → F .f32) {Q : PUnit → sProp 𝕄} :
    iprop(Transfers.MayWaits (th d i) (none : HIx 1) O ∗ xPts d i X ∗ yPts d i G ∗ inPts d i x ∗ outPts d i g ∗ padPts d i p
        ∗ semVal (th d i, SemLoc.dma cc0_scoped0.sem) 0 ∗ semVal (th d i, SemLoc.dma cc0_scoped1.sem) 0 ∗ owesB d i O W)
      ⊢ iprop((inv d i O W X 48 -∗ Q ⟨⟩) -∗ WP d i (body i) Q) := by
  unfold body
  rw [WP_bind]
  iintro ⟨#Hmw, Hx, Hy, Hin, Hout, Hpad, Hs0, Hs1, HO⟩ Hk
  iapply (wp_ldPad d i) $$ Hpad
  iintro Hpad
  rw [WP_bind]
  rw [show (k0_pay2 : Vec F S16 .f32) = lane fun _ => zf from rfl]
  iapply (wp_stPad d i) $$ Hpad
  iintro Hpad
  rw [WP_bind]
  iapply (Scf.wp_for frame (wpE (defs₀ (F := F)) 𝒱₀ (th d i) none) Set.univ _ _ _ k0_t1_ok _ _
    (fun n _ => inv d i O W X n) ?_)
  · intro k _
    exact wp_trip d i k O W X
  · isplitl [Hx Hy Hin Hout Hpad Hs0 Hs1 HO]
    · unfold inv
      isplitr; · iexact Hmw
      isplitl [Hx]; · iexact Hx
      isplitl [Hy]
      · iexists G
        isplitr
        · ipureintro; exact fun im h c him => absurd him (Nat.not_lt_zero _)
        · iexact Hy
      isplitl [Hin]; · iexists x; iexact Hin
      isplitl [Hout]; · iexists g; iexact Hout
      isplitl [Hpad]
      · iexists (put 96 (fun _ => zf) p)
        isplitr
        · ipureintro; exact tail_put p
        · iexact Hpad
      isplitl [Hs0]; · iexact Hs0
      isplitl [Hs1]; · iexact Hs1
      iexact HO
    · iintro %_ H
      rw [show Scf.trips k0_t1_loop.lb k0_t1_loop.ub k0_t1_loop.st = 48 from trips1]
      iapply (WP_pure d i)
      iapply Hk
      iexact H

end Rules

end Cert.KernelIdeal.Pad
-- ==== Proof.KernelIdeal.Launch.lean ====
/-
  The launch: the tasks' parts of the operand and of the result, the program around the call, and its run.
-/
module

public import proofs.«01_k».proof.Proof.KernelIdeal.Trip

@[expose] public section

noncomputable section

namespace Cert.KernelIdeal.Pad

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

abbrev D : Defs nD τ sig (Elt F) (ΛP (F := F)) := Pipeline.defs pcfgs defs₀

/-- The call's semaphores are distinct and live where the handshakes need them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's handshakes live in the left factor. -/
abbrev EH : Emb UH (MT nD τ sig (HIx 1) (Elt F) ℕ UU ℕ) := embL

variable (m : (ℓ : Loc nD τ sig) → Buf (Elt F) ℓ) (ρ : Dev nD → PrngReg)

/-! ## The arrays of the program -/

abbrev aLoc (d : Dev nD) : Loc nD τ sig := (SparseCore.T d).loc main_arg0
abbrev xLoc (d : Dev nD) : Loc nD τ sig := (SparseCore.T d).loc main_v0
abbrev yLoc (d : Dev nD) : Loc nD τ sig := (SparseCore.T d).loc main_v1
abbrev zLoc (d : Dev nD) : Loc nD τ sig := (SparseCore.T d).loc main_v2
abbrev rLoc (d : Dev nD) : Loc nD τ sig := (SparseCore.T d).loc main_v3

/-- The argument laid flat. -/
def flat (d : Dev nD) : S28311552.Idx → F .f32 :=
  shapeCast S28311552 (m (aLoc d) : S32x96x96x96.Idx → F .f32) shapeCasts_S32x96x96x96_S28311552

/-- The flat argument is described by some function. -/
theorem flat_buf (d : Dev nD) : ∃ X : ℕ → F .f32, flat m d = buf X := exists_buf (by omega) _

/-- The flat argument as a function of the position. -/
def X (d : Dev nD) : ℕ → F .f32 := (flat_buf m d).choose

/-- The flat argument is described by `X`. -/
theorem flat_eq (d : Dev nD) : flat m d = buf (X m d) := (flat_buf m d).choose_spec

/-- The position `n` of the flat result. -/
def at1 (n : ℕ) : S40894464.Idx := fun a => ⟨n % 40894464, by obtain rfl : a = (0 : Fin 1) := Subsingleton.elim (α := Fin 1) _ _; exact Nat.mod_lt _ (by omega)⟩

/-- The grid point of SparseCore `c` and subcore `s`. -/
def pt (c s : ℕ) : grid0.Coords :=
  fun | 0 => (⟨c % 2, Nat.mod_lt _ (by omega)⟩ : Fin 2) | 1 => (⟨s % 16, Nat.mod_lt _ (by omega)⟩ : Fin 16) | ⟨_ + 2, h⟩ => absurd h (Nat.not_lt.2 (Nat.le_add_left _ _))

/-- The image group of a grid point, by its SparseCore and subcore. -/
theorem grp_pt (c s : ℕ) : grp (pt c s) = 2 * (s % 16) + c % 2 := rfl

/-- There are thirty-two image groups. -/
theorem grp_lt (i : grid0.Coords) : grp i < 32 := by
  have h0 : (i 0).val < 2 := (i 0).isLt
  have h1 : (i 1).val < 16 := (i 1).isLt
  unfold grp; omega

/-- The task's images are padded in the flat result `f`. -/
def DoneB (d : Dev nD) (i : grid0.Coords) (f : S40894464.Idx → F .f32) : Prop :=
  ∀ im h c, im < 96 → h < 98 → c < 98 →
    f (at1 (1277952 * grp i + 13312 * im + 128 * h + c)) = pixel i (fun k => X m d (884736 * grp i + 9216 * im + k)) h c

/-- A task's images, once all are padded, are padded in the buffer. -/
theorem doneB_of (d : Dev nD) (i : grid0.Coords) (G : ℕ → F .f32) (h : Done i (X m d) G 96) : DoneB m d i (buf G) := by
  intro im r c him hr hc
  rw [← h im r c him hr hc]
  have hg := grp_lt i
  show G ((1277952 * grp i + 13312 * im + 128 * r + c) % 40894464) = _
  rw [Nat.mod_eq_of_lt (by omega)]

/-- That a task's images are padded depends on the task's own part of the result only. -/
theorem doneB_congr (d : Dev nD) (i : grid0.Coords) {f g : S40894464.Idx → F .f32} (hf : DoneB m d i f) (h : ∀ j ∈ outSet i, g j = f j) :
    DoneB m d i g := by
  intro im r c him hr hc
  rw [← hf im r c him hr hc]
  have hg := grp_lt i
  refine h _ (Finset.mem_filter.mpr ⟨Finset.mem_univ _, ?_⟩)
  show (1277952 * grp i + 13312 * im + 128 * r + c) % 40894464 / 1277952 = _
  rw [Nat.mod_eq_of_lt (by omega)]
  omega

/-- The parts of a SparseCore. -/
def coreIn (c : ℕ) : Finset S28311552.Idx := Finset.univ.filter fun j => (j 0).val / 884736 % 2 = c
/-- The elements of the flat result that a SparseCore writes. -/
def coreOut (c : ℕ) : Finset S40894464.Idx := Finset.univ.filter fun j => (j 0).val / 1277952 % 2 = c

/-- What a task is handed, and what it hands back. -/
def goP (d : Dev nD) (i : grid0.Coords) : sProp 𝕄 :=
  iprop((xLoc d ↦[inSet i]{fullShare} flat m d) ∗ ∃ f : Buf (Elt F) (yLoc d), yLoc d ↦[outSet i]{fullShare} f)
/-- What a task hands back: its part of the argument, and its part of the result with its images padded. -/
def tdP (d : Dev nD) (i : grid0.Coords) : sProp 𝕄 :=
  iprop((xLoc d ↦[inSet i]{fullShare} flat m d) ∗ ∃ f : Buf (Elt F) (yLoc d), ⌜DoneB m d i f⌝ ∗ yLoc d ↦[outSet i]{fullShare} f)

/-- What a SparseCore is handed, and what it hands back. -/
def stP (d : Dev nD) (c : ℕ) : sProp 𝕄 :=
  iprop((xLoc d ↦[coreIn c]{fullShare} flat m d) ∗ ∃ f : Buf (Elt F) (yLoc d), yLoc d ↦[coreOut c]{fullShare} f)
/-- What a SparseCore hands back: its part of the argument, and its part of the result with its tasks' images padded. -/
def dnP (d : Dev nD) (c : ℕ) : sProp 𝕄 :=
  iprop((xLoc d ↦[coreIn c]{fullShare} flat m d) ∗ ∃ f : Buf (Elt F) (yLoc d), ⌜∀ s : Fin 16, DoneB m d (pt c s.val) f⌝ ∗ yLoc d ↦[coreOut c]{fullShare} f)

instance goP_storable (d : Dev nD) (i : grid0.Coords) : BI.Storable (upEmb : UEmb _ 𝕄) (goP m d i) := by unfold goP; infer_instance
instance tdP_storable (d : Dev nD) (i : grid0.Coords) : BI.Storable (upEmb : UEmb _ 𝕄) (tdP m d i) := by unfold tdP; infer_instance
instance stP_storable (d : Dev nD) (c : ℕ) : BI.Storable (upEmb : UEmb _ 𝕄) (stP m d c) := by unfold stP; infer_instance
instance dnP_storable (d : Dev nD) (c : ℕ) : BI.Storable (upEmb : UEmb _ 𝕄) (dnP m d c) := by unfold dnP; infer_instance

/-- The call's payloads. -/
def P : (K (F := F)).Pay (nD := nD) (Val := Elt F) (Name := ℕ) (U := UU) where
  st := fun _ d c => stP m d c.val
  dn := fun _ d c => dnP m d c.val
  go := fun _ d c i => goP m d (pt c.val i.val)
  td := fun _ d c i => tdP m d (pt c.val i.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The task -/

section Tile
variable (d : Dev nD) (i : grid0.Coords)

abbrev c0 : GSem nD τ sig := (th d i, .dma cc0_scoped0.sem)
abbrev c1 : GSem nD τ sig := (th d i, .dma cc0_scoped1.sem)

/-- The two transfers' semaphores are among the subcore's own. -/
theorem ownSems0_V :
    (ownSems0 (th d i) : sProp 𝕄)
      = iprop(semVal (c0 d i) 0 ∗ semVal (c1 d i) 0 ∗ bigSep (((ownCells (th d i)).erase (c0 d i)).erase (c1 d i)) fun g => semVal g 0) := by
  unfold SparseCore.Cfg.ownSems0
  rw [SparseCore.bigSep_erase' ((mem_ownCells (g := c0 d i)).mpr ⟨rfl, by
      show (SemLoc.dma cc0_scoped0.sem : SemLoc sig).isScoped .scVector = true; decide⟩),
    SparseCore.bigSep_erase' (Finset.mem_erase.mpr ⟨by simp [c0, c1]; decide, (mem_ownCells (g := c1 d i)).mpr ⟨rfl, by
      show (SemLoc.dma cc0_scoped1.sem : SemLoc sig).isScoped .scVector = true; decide⟩⟩)]

/-- The three scratches are among the subcore's own buffers. -/
theorem ownBufs_V :
    (ownBufs (th d i) : sProp 𝕄)
      = iprop((∃ f, (th d i).loc cc0_scratch0 ↦{fullShare} f) ∗ (∃ f, (th d i).loc cc0_scratch1 ↦{fullShare} f)
          ∗ (∃ f, (th d i).loc cc0_scratch2 ↦{fullShare} f)
          ∗ bigSep ((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV i) (jV i)) (b := (Proc.scVector (cV i) (jV i)).devRef cc0_scratch2) rfl⟩⟩)]

/-- The task at a grid point takes its part of the flat result to the padded images. -/
theorem tile_body (O : CellTallies nD τ sig (HIx 1)) (W : Waits sig (HIx 1)) (hO : ∀ g, O g none = 0) :
    iprop(levAts (K (F := F)).L (K (F := F)).lev ∗ emp ∗ goP m d i ∗ scopedBufs (th d i) ∗ scopedSems0 (th d i) ∗ owes (th d i) O W)
      ⊢ wp frame (wpE (defs₀ (F := F)) 𝒱₀ (th d i) none) Set.univ
          (cc0__body i aIn (Memref.isWhole_whole _) aOut (Memref.isWhole_whole _) sIn (Memref.isWhole_whole _) sOut (Memref.isWhole_whole _) sPad
            (Memref.isWhole_whole _) cc0_scoped0 cc0_scoped1)
          fun _ => iprop(tdP m d i ∗ scopedBufs (th d i) ∗ scopedSems0 (th d i) ∗ ∃ W', ⌜∀ p ∈ W', p ∈ W ∨ p.2 = none⌝ ∗ owes (th d i) O W') := by
  rw [body_eq, (K (F := F)).scopedBufs_V facts d (cV i) (jV i), SparseCore.Cfg.scopedSems0_V (Val := Elt F) d (cV i) (jV i)]
  show iprop(_ ∗ _ ∗ _ ∗ ownBufs (th d i) ∗ ownSems0 (th d i) ∗ _) ⊢ wp _ _ _ _ fun _ => iprop(_ ∗ ownBufs (th d i) ∗ ownSems0 (th d i) ∗ _)
  rw [ownSems0_V, ownBufs_V]
  unfold goP tdP
  iintro ⟨#Hlv, -, ⟨Hx, %f, Hy⟩, ⟨⟨%f0, Hin⟩, ⟨%f1, Hout⟩, ⟨%f2, Hpad⟩, Hbufs⟩, ⟨Hs0, Hs1, Hsems⟩, HO⟩
  ihave Hmw := ((K (F := F)).mayWaits_none (thr := th d i) hO) $$ Hlv
  obtain ⟨G, hG⟩ := exists_buf (N := 40894464) (by omega) f
  obtain ⟨x, hx⟩ := exists_buf (N := 18432) (by omega) f0
  obtain ⟨g, hg⟩ := exists_buf (N := 26624) (by omega) f1
  obtain ⟨p, hp⟩ := exists_buf (N := 112) (by omega) f2
  subst hG hx hg hp
  rw [flat_eq]
  iapply (wp_body d i O W (X m d) G x g p) $$ [Hmw Hx Hy Hin Hout Hpad Hs0 Hs1 HO]
  · isplitl [Hmw]; · iexact Hmw
    isplitl [Hx]; · iexact Hx
    isplitl [Hy]; · iexact Hy
    isplitl [Hin]; · iexact Hin
    isplitl [Hout]; · iexact Hout
    isplitl [Hpad]; · iexact Hpad
    isplitl [Hs0]; · iexact Hs0
    isplitl [Hs1]; · iexact Hs1
    iexists W
    isplitr
    · ipureintro; exact fun p hp => .inl hp
    · iexact HO
  unfold inv
  iintro ⟨-, Hx, ⟨%G', %hG', Hy⟩, ⟨%x', Hin⟩, ⟨%g', Hout⟩, ⟨%p', -, Hpad⟩, Hs0, Hs1, HO⟩
  isplitl [Hx Hy]
  · isplitl [Hx]; · iexact Hx
    iexists (buf G' : S40894464.Idx → F .f32)
    isplitr
    · ipureintro; exact doneB_of m d i G' hG'
    · iexact Hy
  isplitl [Hin Hout Hpad Hbufs]
  · isplitl [Hin]; · iexists _; iexact Hin
    isplitl [Hout]; · iexists _; iexact Hout
    isplitl [Hpad]; · iexists _; iexact Hpad
    iexact Hbufs
  isplitl [Hs0 Hs1 Hsems]
  · isplitl [Hs0]; · iexact Hs0
    isplitl [Hs1]; · iexact Hs1
    iexact Hsems
  iexact HO

end Tile

/-! ## The launch theorem's obligations -/

/-- The body that a tile runs is the task at its grid point. -/
theorem defs₀_vector (c : Fin τ.nSC) (s : Fin τ.nSub) :
    defs₀ (F := F) (.scVector c s) 0 ()
      = SparseCore.onTile hcore0 hsub0 (fun c s => cc0__body (fun | 0 => c | 1 => s | ⟨_ + 2, h⟩ => absurd h (Nat.not_lt.2 (Nat.le_add_left _ _)))
          aIn (Memref.isWhole_whole _) aOut (Memref.isWhole_whole _) sIn (Memref.isWhole_whole _) sOut (Memref.isWhole_whole _) sPad
          (Memref.isWhole_whole _) cc0_scoped0 cc0_scoped1) ⟨⟩ c s := rfl

/-- A grid point of the call, written by its two coordinates. -/
theorem pt_eq (c : Fin 2) (s : Fin 16) :
    pt c.val s.val = fun | 0 => (c : Fin (grid0.bound 0)) | 1 => (s : Fin (grid0.bound 1)) | ⟨_ + 2, h⟩ => absurd h (Nat.not_lt.2 (Nat.le_add_left _ _)) := by
  funext a
  match a with
  | 0 => exact Fin.ext (Nat.mod_eq_of_lt c.isLt)
  | 1 => exact Fin.ext (Nat.mod_eq_of_lt s.isLt)

/-- A task's waits are among those its handshake allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call meets its contract. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ goP m d (pt c.val i.val) ∗ _) ⊢ wp _ _ _ _ (fun _ => iprop(tdP m d (pt c.val i.val) ∗ _))
  rw [pt_eq ⟨c.val, hc.1⟩ ⟨i.val, hc.2⟩]
  exact (tile_body m d (fun | 0 => ⟨_, hc.1⟩ | 1 => ⟨_, hc.2⟩ | ⟨_ + 2, h⟩ => absurd h (Nat.not_lt.2 (Nat.le_add_left _ _))) O W hO).trans
    (wp_mono frame _ _ fun _ => obl_post)

/-! ### The parts cover the arrays -/

/-- Two tasks of a SparseCore read different elements. -/
theorem in_disjoint (c : ℕ) : ∀ s ∈ (Finset.univ : Finset (Fin 16)), ∀ t ∈ (Finset.univ : Finset (Fin 16)), s ≠ t →
    Disjoint (inSet (pt c s.val)) (inSet (pt c t.val)) := fun s _ t _ h => Finset.disjoint_left.mpr fun j h1 h2 => h (Fin.ext (by
  have e1 := (Finset.mem_filter.mp h1).2
  have e2 := (Finset.mem_filter.mp h2).2
  rw [grp_pt] at e1 e2
  have := s.isLt; have := t.isLt
  omega))

/-- Two tasks of a SparseCore write different elements. -/
theorem out_disjoint (c : ℕ) : ∀ s ∈ (Finset.univ : Finset (Fin 16)), ∀ t ∈ (Finset.univ : Finset (Fin 16)), s ≠ t →
    Disjoint (outSet (pt c s.val)) (outSet (pt c t.val)) := fun s _ t _ h => Finset.disjoint_left.mpr fun j h1 h2 => h (Fin.ext (by
  have e1 := (Finset.mem_filter.mp h1).2
  have e2 := (Finset.mem_filter.mp h2).2
  rw [grp_pt] at e1 e2
  have := s.isLt; have := t.isLt
  omega))

/-- The tasks of a SparseCore read all of its part of the argument. -/
theorem in_cover (c : ℕ) (hc : c < 2) : (Finset.univ : Finset (Fin 16)).biUnion (fun s => inSet (pt c s.val)) = coreIn c := by
  ext j
  have hj : (j 0).val < 28311552 := (j 0).isLt
  refine ⟨fun h => Finset.mem_filter.mpr ⟨Finset.mem_univ _, ?_⟩, fun h => Finset.mem_biUnion.mpr ⟨⟨(j 0).val / 884736 / 2, by omega⟩, Finset.mem_univ _,
    Finset.mem_filter.mpr ⟨Finset.mem_univ _, ?_⟩⟩⟩
  · obtain ⟨s, -, h⟩ := Finset.mem_biUnion.mp h
    have e := (Finset.mem_filter.mp h).2
    rw [grp_pt] at e
    have := s.isLt
    omega
  · have e := (Finset.mem_filter.mp h).2
    show _ = 2 * ((j 0).val / 884736 / 2 % 16) + c % 2
    omega

/-- The tasks of a SparseCore write all of its part of the result. -/
theorem out_cover (c : ℕ) (hc : c < 2) : (Finset.univ : Finset (Fin 16)).biUnion (fun s => outSet (pt c s.val)) = coreOut c := by
  ext j
  have hj : (j 0).val < 40894464 := (j 0).isLt
  refine ⟨fun h => Finset.mem_filter.mpr ⟨Finset.mem_univ _, ?_⟩, fun h => Finset.mem_biUnion.mpr ⟨⟨(j 0).val / 1277952 / 2, by omega⟩, Finset.mem_univ _,
    Finset.mem_filter.mpr ⟨Finset.mem_univ _, ?_⟩⟩⟩
  · obtain ⟨s, -, h⟩ := Finset.mem_biUnion.mp h
    have e := (Finset.mem_filter.mp h).2
    rw [grp_pt] at e
    have := s.isLt
    omega
  · have e := (Finset.mem_filter.mp h).2
    show _ = 2 * ((j 0).val / 1277952 / 2 % 16) + c % 2
    omega

/-- The two SparseCores read different elements. -/
theorem coreIn_disjoint : ∀ s ∈ (Finset.univ : Finset (Fin 2)), ∀ t ∈ (Finset.univ : Finset (Fin 2)), s ≠ t →
    Disjoint (coreIn s.val) (coreIn t.val) := fun s _ t _ h => Finset.disjoint_left.mpr fun j h1 h2 =>
  h (Fin.ext ((Finset.mem_filter.mp h1).2.symm.trans (Finset.mem_filter.mp h2).2))

/-- The two SparseCores write different elements. -/
theorem coreOut_disjoint : ∀ s ∈ (Finset.univ : Finset (Fin 2)), ∀ t ∈ (Finset.univ : Finset (Fin 2)), s ≠ t →
    Disjoint (coreOut s.val) (coreOut t.val) := fun s _ t _ h => Finset.disjoint_left.mpr fun j h1 h2 =>
  h (Fin.ext ((Finset.mem_filter.mp h1).2.symm.trans (Finset.mem_filter.mp h2).2))

/-- The two SparseCores read the whole argument. -/
theorem coreIn_cover : (Finset.univ : Finset (Fin 2)).biUnion (fun c => coreIn c.val) = Finset.univ := by
  ext j
  simp only [Finset.mem_biUnion, Finset.mem_univ, true_and, coreIn, Finset.mem_filter, iff_true]
  exact ⟨⟨(j 0).val / 884736 % 2, Nat.mod_lt _ (by omega)⟩, rfl⟩

/-- The two SparseCores write the whole result. -/
theorem coreOut_cover : (Finset.univ : Finset (Fin 2)).biUnion (fun c => coreOut c.val) = Finset.univ := by
  ext j
  simp only [Finset.mem_biUnion, Finset.mem_univ, true_and, coreOut, Finset.mem_filter, iff_true]
  exact ⟨⟨(j 0).val / 1277952 % 2, Nat.mod_lt _ (by omega)⟩, rfl⟩

/-- A task's part of the result lies in its SparseCore's. -/
theorem outSet_core (c : Fin 2) (s : Fin 16) : outSet (pt c.val s.val) ⊆ coreOut c.val := by
  rw [← out_cover c.val c.isLt]
  exact Finset.subset_biUnion_of_mem (fun s : Fin 16 => outSet (pt c.val s.val)) (Finset.mem_univ s)

/-! ### Splitting and joining along parts -/

/-- Facts beside the members of a family come out together. -/
theorem bigSep_pure {I : Type} [DecidableEq I] (S : Finset I) (φ : I → Prop) (Q : I → sProp 𝕄) :
    bigSep S (fun t => iprop(⌜φ t⌝ ∗ Q t)) ⊢ iprop(⌜∀ t ∈ S, φ t⌝ ∗ bigSep S Q) := by
  induction S using Finset.induction_on with
  | empty =>
    rw [bigSep_empty, bigSep_empty]
    iintro H
    isplitr
    · ipureintro; exact fun t ht => absurd ht (Finset.notMem_empty _)
    · iexact H
  | insert t S ht ih =>
    rw [SparseCore.bigSep_insert' ht, SparseCore.bigSep_insert' ht]
    iintro ⟨⟨%h, Ht⟩, HS⟩
    ihave H := ih $$ HS
    icases H with ⟨%hS, HS⟩
    isplitr
    · ipureintro
      intro t' ht'
      rcases Finset.mem_insert.mp ht' with rfl | ht'
      · exact h
      · exact hS t' ht'
    isplitl [Ht]; · iexact Ht
    iexact HS

/-- Parts of a buffer, each at contents of which something holds, join to one buffer agreeing with each on its part. -/
theorem join {I : Type} [DecidableEq I] [Fintype I] (d : Dev nD) (Ks : I → Finset S40894464.Idx) (φ : I → (S40894464.Idx → F .f32) → Prop) (i₀ : I)
    (h : ∀ t ∈ (Finset.univ : Finset I), ∀ t' ∈ (Finset.univ : Finset I), t ≠ t' → Disjoint (Ks t) (Ks t')) :
    (bigSep Finset.univ fun t : I => iprop(∃ f : Buf (Elt F) (yLoc d), ⌜φ t f⌝ ∗ yLoc d ↦[Ks t]{fullShare} f))
      ⊢ (iprop(∃ g : Buf (Elt F) (yLoc d), ⌜∀ t, ∃ f, φ t f ∧ ∀ j ∈ Ks t, g j = f j⌝ ∗ yLoc d ↦[Finset.univ.biUnion Ks]{fullShare} g) : sProp 𝕄) := by
  haveI : Nonempty (Buf (Elt F) (yLoc d)) := ⟨(buf fun _ => zf : S40894464.Idx → F .f32)⟩
  refine (bigSep_exists_pi Finset.univ (fun t (f : Buf (Elt F) (yLoc d)) => iprop(⌜φ t f⌝ ∗ yLoc d ↦[Ks t]{fullShare} f))).trans ?_
  iintro ⟨%fs, H⟩
  ihave H := (bigSep_pure Finset.univ (fun t => φ t (fs t)) (fun t => iprop(yLoc d ↦[Ks t]{fullShare} fs t))) $$ H
  icases H with ⟨%hφ, H⟩
  ihave H := (pointsTo_biUnion_join Finset.univ Ks fs (fs i₀) h) $$ H
  icases H with ⟨%g, %hg, H⟩
  iexists g
  isplitr
  · ipureintro; exact fun t => ⟨fs t, hφ t (Finset.mem_univ _), fun j hj => hg t (Finset.mem_univ _) j hj⟩
  · iexact H

/-- A SparseCore's part of the argument is its tasks' parts. -/
theorem x_tasks (d : Dev nD) (c : Fin 2) :
    (xLoc d ↦[coreIn c.val]{fullShare} flat m d : sProp 𝕄) = bigSep (Finset.univ : Finset (Fin 16)) fun s => xLoc d ↦[inSet (pt c.val s.val)]{fullShare} flat m d := by
  rw [← in_cover c.val c.isLt]
  exact pointsTo_biUnion Finset.univ _ (in_disjoint c.val)

/-- A SparseCore's part of the result is its tasks' parts. -/
theorem y_tasks (d : Dev nD) (c : Fin 2) (f : Buf (Elt F) (yLoc d)) :
    (yLoc d ↦[coreOut c.val]{fullShare} f : sProp 𝕄) = bigSep (Finset.univ : Finset (Fin 16)) fun s => yLoc d ↦[outSet (pt c.val s.val)]{fullShare} f := by
  rw [← out_cover c.val c.isLt]
  exact pointsTo_biUnion Finset.univ _ (out_disjoint c.val)

/-- The flat argument is the two SparseCores' parts. -/
theorem x_cores (d : Dev nD) :
    (xLoc d ↦{fullShare} flat m d : sProp 𝕄) = bigSep (Finset.univ : Finset (Fin 2)) fun c => xLoc d ↦[coreIn c.val]{fullShare} flat m d := by
  rw [← pointsTo_biUnion Finset.univ _ coreIn_disjoint, coreIn_cover]

/-- The flat result is the two SparseCores' parts. -/
theorem y_cores (d : Dev nD) (f : Buf (Elt F) (yLoc d)) :
    (yLoc d ↦{fullShare} f : sProp 𝕄) = bigSep (Finset.univ : Finset (Fin 2)) fun c => yLoc d ↦[coreOut c.val]{fullShare} f := by
  rw [← pointsTo_biUnion Finset.univ _ coreOut_disjoint, coreOut_cover]

/-- Parts at one buffer's contents are parts at some contents. -/
theorem parts_some {I : Type} [Fintype I] (d : Dev nD) (Ks : I → Finset S40894464.Idx) (f : Buf (Elt F) (yLoc d)) :
    (bigSep Finset.univ fun t : I => (yLoc d ↦[Ks t]{fullShare} f : sProp 𝕄))
      ⊢ (bigSep Finset.univ fun t : I => iprop(∃ f : Buf (Elt F) (yLoc d), yLoc d ↦[Ks t]{fullShare} f) : sProp 𝕄) := by
  have e : ∀ t : I, (yLoc d ↦[Ks t]{fullShare} f : sProp 𝕄) ⊢ (iprop(∃ f : Buf (Elt F) (yLoc d), yLoc d ↦[Ks t]{fullShare} f) : sProp 𝕄) := fun t => by
    iintro H
    iexists f
    iexact H
  exact bigSep_mono fun t _ => e t

/-- A SparseCore's part of the result splits into its tasks' parts, whatever they hold. -/
theorem y_tasks_some (d : Dev nD) (c : Fin 2) (f : Buf (Elt F) (yLoc d)) :
    (yLoc d ↦[coreOut c.val]{fullShare} f : sProp 𝕄)
      ⊢ (bigSep (Finset.univ : Finset (Fin 16)) fun s => iprop(∃ f : Buf (Elt F) (yLoc d), yLoc d ↦[outSet (pt c.val s.val)]{fullShare} f) : sProp 𝕄) :=
  (Entails.of_eq (y_tasks d c f)).trans (parts_some d (fun s : Fin 16 => outSet (pt c.val s.val)) f)

/-- The flat result splits into the SparseCores' parts, whatever they hold. -/
theorem y_cores_some (d : Dev nD) (f : Buf (Elt F) (yLoc d)) :
    (yLoc d ↦{fullShare} f : sProp 𝕄)
      ⊢ (bigSep (Finset.univ : Finset (Fin 2)) fun c => iprop(∃ f : Buf (Elt F) (yLoc d), yLoc d ↦[coreOut c.val]{fullShare} f) : sProp 𝕄) :=
  (Entails.of_eq (y_cores d f)).trans (parts_some d (fun c : Fin 2 => coreOut c.val) f)

/-- What the tasks hand back, with the parts of the argument gathered. -/
theorem td_split (d : Dev nD) (c : Fin 2) :
    (bigSep (Finset.univ : Finset (Fin 16)) fun s => tdP m d (pt c.val s.val) : sProp 𝕄)
      ⊢ (iprop((xLoc d ↦[coreIn c.val]{fullShare} flat m d)
        ∗ bigSep (Finset.univ : Finset (Fin 16)) fun s => iprop(∃ f : Buf (Elt F) (yLoc d), ⌜DoneB m d (pt c.val s.val) f⌝ ∗ yLoc d ↦[outSet (pt c.val s.val)]{fullShare} f)) : sProp 𝕄) := by
  unfold tdP
  rw [bigSep_sep', ← x_tasks m d c]

/-- A SparseCore's part is its tasks' parts, and comes back from them. -/
theorem split_core (d : Dev nD) (c : Fin 2) :
    stP m d c.val ⊢ |={Set.univ}=> iprop((bigSep (Finset.univ : Finset (Fin 16)) fun s => goP m d (pt c.val s.val))
      ∗ ((bigSep (Finset.univ : Finset (Fin 16)) fun s => tdP m d (pt c.val s.val)) -∗ dnP m d c.val)) := by
  unfold stP dnP
  iintro ⟨Hx, %f, Hy⟩
  imodintro
  isplitl [Hx Hy]
  · unfold goP
    rw [bigSep_sep', ← x_tasks m d c]
    isplitl [Hx]; · iexact Hx
    iapply (y_tasks_some d c f)
    iexact Hy
  · iintro H
    ihave H := (td_split m d c) $$ H
    icases H with ⟨Hx, Hy⟩
    isplitl [Hx]; · iexact Hx
    ihave H := (join d (fun s : Fin 16 => outSet (pt c.val s.val)) (fun s f => DoneB m d (pt c.val s.val) f) 0 (out_disjoint c.val)) $$ Hy
    icases H with ⟨%g, %hg, H⟩
    rw [out_cover c.val c.isLt]
    iexists g
    isplitr
    · ipureintro
      intro s
      obtain ⟨f, hf, e⟩ := hg s
      exact doneB_congr m d _ hf e
    · iexact H

/-- The call's operands split among the tiles of each SparseCore. -/
theorem vecSplit : (K (F := F)).VecSplit' (P m) 0 := fun d c => split_core m d ⟨c.val, c.isLt⟩

/-! ## The program around the call -/

def u₀ : UU := (initOf (K (F := F)).hsCells (K (F := F)).hsToks, 1)

/-- Many empty resources are none. -/
theorem bigSep_emp' {I : Type} (s : Finset I) : (bigSep s fun _ => iprop(emp)) = (iprop(emp) : sProp 𝕄) := bigSep_emp_const s

/-- The launch's ghost state gives what the handshakes need. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

abbrev a' : DevRef τ sig := Proc.devRef .tc (main_arg0 : Ref sig .tc)
abbrev x' : DevRef τ sig := Proc.devRef .tc (main_v0 : Ref sig .tc)
abbrev y' : DevRef τ sig := Proc.devRef .tc (main_v1 : Ref sig .tc)
abbrev z' : DevRef τ sig := Proc.devRef .tc (main_v2 : Ref sig .tc)
abbrev r' : DevRef τ sig := Proc.devRef .tc (main_v3 : Ref sig .tc)

/-- The three operations on the TensorCore. -/
abbrev op1 : HloOp τ sig (Elt F) := StableHlo.reshape main_arg0 main_v0 (rfl : (.f32 : EltTy) = .f32) shapeCasts_S32x96x96x96_S28311552
abbrev op2 : HloOp τ sig (Elt F) := StableHlo.reshape main_v1 main_v2 (rfl : (.f32 : EltTy) = .f32) shapeCasts_S40894464_S32x96x104x128
abbrev op3 : HloOp τ sig (Elt F) :=
  StableHlo.unary main_v2 main_v3 ((extractStridedSlice S32x96x98x98 ![0, 0, 0, 0] · slices_S32x96x104x128_S32x96x98x98_0_0_0_0) : (⟨S32x96x104x128, .f32⟩ : BufTy).Contents (Elt F) → (⟨S32x96x98x98, .f32⟩ : BufTy).Contents (Elt F))

abbrev S5 : Finset (DevRef τ sig) := {a', x', y', z', r'}

/-- The five arrays of the host program, one by one. -/
theorem held_S5 (d : Dev nD) (W : Valuation τ sig (Elt F)) :
    (held (T d) S5 W : sProp 𝕄) = iprop((aLoc d ↦{fullShare} W a') ∗ (xLoc d ↦{fullShare} W x') ∗ (yLoc d ↦{fullShare} W y')
      ∗ (zLoc d ↦{fullShare} W z') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

/-- The TensorCore's buffers are the five arrays. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (yLoc d ↦{fullShare} W main_v1)
      ∗ (zLoc d ↦{fullShare} W main_v2) ∗ rLoc d ↦{fullShare} W main_v3) := by
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide),
    SparseCore.bigSep_insert' (by decide), bigSep_singleton]

/-- The contents at the launch, before the call, after the call, and at the end. -/
def V0 (d : Dev nD) : Valuation τ sig (Elt F) := fun b => m (d, b)
def V1 (d : Dev nD) : Valuation τ sig (Elt F) := (op1 (F := F)).result (V0 m d)
def V2 (d : Dev nD) (f : Buf (Elt F) (yLoc d)) : Valuation τ sig (Elt F) := Function.update (V1 m d) y' f
def V3 (d : Dev nD) (f : Buf (Elt F) (yLoc d)) : Valuation τ sig (Elt F) := (op3 (F := F)).result ((op2 (F := F)).result (V2 m d f))

/-- The arrays at the start. -/
theorem unscoped_held (d : Dev nD) : (unscopedBufs d (fun b => m ((SparseCore.T d).loc b)) : sProp 𝕄) = held (T d) S5 (V0 m d) := by
  rw [unscopedBufs_eq, held_S5]; rfl

/-- Flattening leaves the argument as it was. -/
theorem V1_a (d : Dev nD) : V1 m d a' = m (aLoc d) := StableHlo.reshape_result_ne _ _ _ _ _ _ _ (show (main_arg0 : Ref sig .tc) ≠ main_v0 by decide)
/-- Flattening writes the flat argument. -/
theorem V1_x (d : Dev nD) : V1 m d x' = flat m d := StableHlo.reshape_result _ _ _ _ _ _ _

/-- The call changes its result only. -/
theorem V2_of_ne (d : Dev nD) (f : Buf (Elt F) (yLoc d)) {b : DevRef τ sig} (h : b ≠ y') : V2 m d f b = V1 m d b := Function.update_of_ne h _ _
/-- The result of the call. -/
theorem V2_y (d : Dev nD) (f : Buf (Elt F) (yLoc d)) : V2 m d f y' = f := Function.update_self _ _ _

/-- The result, from what the call left. -/
def resOf (f : S40894464.Idx → F .f32) : S32x96x98x98.Idx → F .f32 :=
  extractStridedSlice S32x96x98x98 ![0, 0, 0, 0] (shapeCast S32x96x104x128 f shapeCasts_S40894464_S32x96x104x128) slices_S32x96x104x128_S32x96x98x98_0_0_0_0

/-- The host program leaves the argument as it was. -/
theorem V3_a (d : Dev nD) (f : Buf (Elt F) (yLoc d)) : V3 m d f a' = m (aLoc d) :=
  (StableHlo.unary_result_ne _ _ _ _ _ _ (show (main_arg0 : Ref sig .tc) ≠ main_v3 by decide)).trans <|
    (StableHlo.reshape_result_ne _ _ _ _ _ _ _ (show (main_arg0 : Ref sig .tc) ≠ main_v2 by decide)).trans <|
      (V2_of_ne m d f (show a' ≠ y' by decide)).trans (V1_a m d)

/-- The result is the window of the padded images. -/
theorem V3_r (d : Dev nD) (f : Buf (Elt F) (yLoc d)) : V3 m d f r' = resOf f := by
  have e : (op2 (F := F)).result (V2 m d f) z' = shapeCast S32x96x104x128 f shapeCasts_S40894464_S32x96x104x128 :=
    (StableHlo.reshape_result _ _ _ _ _ _ _).trans (by rw [V2_y]; rfl)
  unfold V3 resOf
  rw [← e]
  exact StableHlo.unary_result _ _ _ _ _ _

/-- All tasks' images are padded in `f`. -/
def Good (d : Dev nD) (f : S40894464.Idx → F .f32) : Prop := ∀ (c : Fin 2) (s : Fin 16), DoneB m d (pt c.val s.val) f

/-- What the SparseCores are given at the start of the call. -/
theorem st0_eq (d : Dev nD) : (bigSep Finset.univ fun c : Fin ((K (F := F)).nCore 0) => (P m).st 0 d c)
    = iprop((xLoc d ↦{fullShare} flat m d) ∗ bigSep (Finset.univ : Finset (Fin 2)) fun c => iprop(∃ f : Buf (Elt F) (yLoc d), yLoc d ↦[coreOut c.val]{fullShare} f)) := by
  show (bigSep (Finset.univ : Finset (Fin 2)) fun c => stP m d c.val) = _
  unfold stP
  rw [bigSep_sep', ← x_cores]

/-- What the SparseCores hand back is the argument and the whole flat result with every image padded. -/
theorem dn0_elim (d : Dev nD) : (bigSep Finset.univ fun c : Fin ((K (F := F)).nCore 0) => (P m).dn 0 d c)
    ⊢ iprop((xLoc d ↦{fullShare} flat m d) ∗ ∃ f : Buf (Elt F) (yLoc d), ⌜Good m d f⌝ ∗ yLoc d ↦{fullShare} f) := by
  show (bigSep (Finset.univ : Finset (Fin 2)) fun c => dnP m d c.val) ⊢ _
  unfold dnP
  rw [bigSep_sep', ← x_cores]
  iintro ⟨Hx, Hy⟩
  isplitl [Hx]; · iexact Hx
  ihave H := (join d (fun c : Fin 2 => coreOut c.val) (fun c f => ∀ s : Fin 16, DoneB m d (pt c.val s.val) f) 0 coreOut_disjoint) $$ Hy
  icases H with ⟨%g, %hg, H⟩
  rw [coreOut_cover]
  iexists g
  isplitr
  · ipureintro
    intro c s
    obtain ⟨f, hf, e⟩ := hg c
    exact doneB_congr m d _ (hf s) fun j hj => e j (outSet_core c s hj)
  · iexact H

/-- What the program leaves the claim. -/
def FIN (d : Dev nD) : sProp 𝕄 :=
  iprop((aLoc d ↦{fullShare} m (aLoc d)) ∗ ∃ f : Buf (Elt F) (yLoc d), ⌜Good m d f⌝ ∗ rLoc d ↦{fullShare} (resOf f : Buf (Elt F) (rLoc d)))

/-- The first host operation touches the five arrays only. -/
theorem h1 : (op1 (F := F)).bufs ⊆ S5 := show ({a', x'} : Finset (DevRef τ sig)) ⊆ S5 by decide
/-- The second host operation touches the five arrays only. -/
theorem h2 : (op2 (F := F)).bufs ⊆ S5 := show ({y', z'} : Finset (DevRef τ sig)) ⊆ S5 by decide
/-- The third host operation touches the five arrays only. -/
theorem h3 : (op3 (F := F)).bufs ⊆ S5 := show ({z', r'} : Finset (DevRef τ sig)) ⊆ S5 by decide

/-- The program on the TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S5) h1 (V := V0 m d)) $$ [Hb Hheld]
  · isplitl [Hb]; · iexact Hb
    iexact Hheld
  iintro ⟨Hb, Hheld⟩
  rw [wp_ret]; imodintro
  ihave Hh := (show held (T d) S5 ((op1 (F := F)).result (V0 m d)) ⊢ _ from Entails.of_eq (held_S5 (F := F) d (V1 m d))) $$ Hheld
  icases Hh with ⟨Ha, Hx, Hy, Hz, Hr⟩
  rw [V1_x]
  iapply ((K (F := F)).wp_run (D (F := F)) 𝒱 (EH := EH) (P := P m) κ d 0) $$ [Hst Hx Hy Hb Ha Hz Hr Hts]
  isplitr; · iexact Hctx
  isplitl [Hst]; · iexact Hst
  isplitl [Hx Hy]
  · rw [st0_eq]
    isplitl [Hx]; · iexact Hx
    iapply (y_cores_some d (V1 m d y'))
    iexact Hy
  iintro ⟨Hst, Hdn⟩
  ihave Hdn' := (dn0_elim m d) $$ Hdn
  icases Hdn' with ⟨Hx, %f, %hf, Hy⟩
  iapply (wp_hlo_within 𝒱 (SparseCore.T d) none Set.univ (op := op2) (S := S5) h2 (V := V2 m d f)) $$ [Hb Ha Hx Hy Hz Hr]
  · isplitl [Hb]; · iexact Hb
    rw [held_S5, V2_y, V2_of_ne m d f (show a' ≠ y' by decide), V2_of_ne m d f (show x' ≠ y' by decide), V2_of_ne m d f (show z' ≠ y' by decide),
      V2_of_ne m d f (show r' ≠ y' by decide), V1_x]
    isplitl [Ha]; · iexact Ha
    isplitl [Hx]; · iexact Hx
    isplitl [Hy]; · iexact Hy
    isplitl [Hz]; · iexact Hz
    iexact Hr
  iintro ⟨Hb, Hheld⟩
  rw [wp_ret]; imodintro
  iapply (wp_hlo_within 𝒱 (SparseCore.T d) none Set.univ (op := op3) (S := S5) h3) $$ [Hb Hheld]
  · isplitl [Hb]; · iexact Hb
    iexact Hheld
  iintro ⟨Hb, Hheld⟩
  ihave Hh := (show held (T d) S5 ((op3 (F := F)).result ((op2 (F := F)).result (V2 m d f))) ⊢ _ from Entails.of_eq (held_S5 (F := F) d (V3 m d f))) $$ Hheld
  icases Hh with ⟨Ha, -, -, -, Hr⟩
  rw [V3_a, V3_r, wp_ret]; imodintro; imodintro
  isplitl [Hst]; · iexact Hst
  isplitr [Hb Hts]
  · unfold FIN
    isplitl [Ha]; · iexact Ha
    iexists f
    isplitr
    · ipureintro; exact hf
    · iexact Hr
  isplitl [Hb]; · iexact Hb
  iexact Hts

/-- What the claim reads off the final state. -/
def fq (d : Dev nD) (s' : Phys nD τ sig (Elt F)) : Prop :=
  s'.mem.mem (aLoc d) = m (aLoc d) ∧ ∃ f : S40894464.Idx → F .f32, Good m d f ∧ s'.mem.mem (rLoc d) = resOf f

/-- What the claim says can be read off the final resources. -/
theorem hfin (d : Dev nD) (s' : Phys nD τ sig (Elt F)) : iprop(FIN m d ∗ SI s') ⊢ (⌜fq m d s'⌝ : sProp 𝕄) := by
  unfold FIN
  iintro ⟨⟨Ha, %f, %hf, Hr⟩, HSI⟩
  icombine HSI Ha gives %ha
  ihave H := (SI_pointsTo_agree (st := s') (ℓ := rLoc d) (I := Finset.univ) (q := fullShare) (f := (resOf f : Buf (Elt F) (rLoc d)))) $$ [HSI Hr]
  · isplitl [HSI] <;> iassumption
  icases H with %hr
  ipureintro
  exact ⟨funext fun i => ha i (Finset.mem_univ i), f, hf, funext fun i => hr i (Finset.mem_univ i)⟩

/-- What a run ends with: the argument as it was, the window of the padded images, and every semaphore at zero. -/
def QC : PUnit × MemSt nD τ sig (Elt F) → Prop := fun r =>
  (∀ d : Dev nD, r.2.mem (aLoc d) = m (aLoc d) ∧ ∃ f : S40894464.Idx → F .f32, Good m d f ∧ r.2.mem (rLoc d) = resOf f) ∧ r.2.sem = fun _ => 0

/-- Every run terminates with the argument unchanged, the padded images in the result, and the semaphores at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Pad
-- ==== Proof.Border.lean ====
/-
  The padded image on the extended reals, and the float constants the two programs spell.
-/
module

public import Idealize.ShloMosaic.Lib.IdealHost

@[expose] public section

noncomputable section

namespace Cert.Border

open Idealize.ShloMosaic

/-- One third, as an extended real. -/
def t3 : EReal := ((3⁻¹ : ℝ) : EReal)

/-- Row `r` of an image of 96 columns laid flat, followed by zeros. -/
def rowz (y : ℕ → EReal) (r k : ℕ) : EReal := if k < 96 then y (96 * r + k) else 0

/-- The padded image `b` of a four by four grid of patches, at row `h` and column `w`, from the image `y` laid flat. -/
def border (y : ℕ → EReal) (b h w : ℕ) : EReal :=
  if w = 97 ∧ b % 4 = 3 then 0
  else if w = 0 ∧ b % 4 = 0 then 0
  else if h = 97 ∧ 12 ≤ b % 16 then 0
  else if h = 0 ∧ b % 16 < 4 then 0
  else if w = 97 ∧ 1 ≤ h ∧ h ≤ 96 then (y (96 * (h - 1) + 93) + y (96 * (h - 1) + 94) + y (96 * (h - 1) + 95)) * t3
  else if w = 0 ∧ 1 ≤ h ∧ h ≤ 96 then (y (96 * (h - 1)) + y (96 * (h - 1) + 1) + y (96 * (h - 1) + 2)) * t3
  else if h = 97 ∧ 1 ≤ w ∧ w ≤ 96 then (rowz y 95 (w - 1) + rowz y 95 w + rowz y 95 (w + 1)) * t3
  else if h = 0 ∧ 1 ≤ w ∧ w ≤ 96 then (rowz y 0 (w - 1) + rowz y 0 w + rowz y 0 (w + 1)) * t3
  else y (96 * min (h - 1) 95 + min (w - 1) 95)

/-- A row followed by zeros reads the image's own elements only. -/
theorem rowz_congr {y z : ℕ → EReal} (e : ∀ n, n < 9216 → y n = z n) {r : ℕ} (hr : r < 96) (k : ℕ) : rowz y r k = rowz z r k := by
  unfold rowz
  split_ifs
  · exact e _ (by omega)
  · rfl

/-- The padded image reads the image's own 9216 elements only. -/
theorem border_congr {y z : ℕ → EReal} (e : ∀ n, n < 9216 → y n = z n) (b : ℕ) {h w : ℕ} (hh : h < 98) (hw : w < 98) :
    border y b h w = border z b h w := by
  unfold border
  refine if_congr Iff.rfl rfl (if_congr Iff.rfl rfl (if_congr Iff.rfl rfl (if_congr Iff.rfl rfl ?_)))
  rw [rowz_congr e (by omega : 95 < 96), rowz_congr e (by omega : 95 < 96), rowz_congr e (by omega : 95 < 96),
    rowz_congr e (by omega : 0 < 96), rowz_congr e (by omega : 0 < 96), rowz_congr e (by omega : 0 < 96), e (96 * min (h - 1) 95 + min (w - 1) 95) (by omega)]
  split_ifs with h1 h2
  · rw [e _ (by omega), e _ (by omega), e _ (by omega)]
  · rw [e (96 * (h - 1)) (by omega), e _ (by omega), e _ (by omega)]
  all_goals rfl

/-- The word of the float 3. -/
theorem ofBits_3 : Ideal.ofBits .f32 0x40400000#32 = ((3 : ℝ) : EReal) := by
  simp [Ideal.ofBits, Ideal.ieee, -EReal.coe_mul]; norm_num

/-- The word of the float 0. -/
theorem ofBits_0 : Ideal.ofBits .f32 0x00000000#32 = 0 := Ideal.ofBits_zero_f32

/-- The word of the float 1. -/
theorem ofBits_1 : Ideal.ofBits .f32 0x3F800000#32 = 1 := Ideal.ofBits_one_f32

/-- Dividing by three is multiplying by one third. -/
theorem div_3 (x : EReal) : Ideal.div x ((3 : ℝ) : EReal) = x * t3 := by
  rw [Ideal.div_coe (by norm_num : (3 : ℝ) ≠ 0), one_div]; rfl

end Cert.Border

end
-- ==== Proof.ReferenceIdeal.Terms.lean ====
/-
  The reference's result as a composition of a few named steps, and each step read at an index.
-/
module

public import proofs.«01_k».proof.Proof.Gen.ReferenceIdeal.Run
public import proofs.«01_k».proof.Proof.Border
public import Idealize.ShloMosaic.Lib.Routing.OpsSet
public import Idealize.ShloMosaic.Lib.Pointwise.Reduce
public import Idealize.ShloMosaic.Lib.KernelVsHost
public import Idealize.ShloMosaic.Lib.Pipeline.Value

@[expose] public section

noncomputable section

namespace Cert.ReferenceIdeal.Pad

open Cert.ReferenceIdeal Cert.ReferenceIdeal.Gen
open Idealize.ShloMosaic hiding ix1 ix2 ix3 ix4 eq_ix1 eq_ix2 eq_ix3 eq_ix4
open Idealize.ShloMosaic.Routing Idealize.ShloMosaic.ValueIdx

variable {F : FTy → Type} [FloatOps F]

/-! ## The steps -/

/-- The place `[h, w]` of a window in an image. -/
def place (h w : BitVec 32) : IVec S2 32 :=
  concatenate S2 0 [⟨S1, (broadcastInDim S1 ![] bcast_S_S1 (constantI S_ 32 h))⟩, ⟨S1, (broadcastInDim S1 ![] bcast_S_S1 (constantI S_ 32 w))⟩] concatenates_S1_S1_S2_d0

/-- The images with their first and last rows repeated. -/
def moreRows (x : FVec F S32x96x96x96 .f32) : FVec F S32x96x98x96 .f32 :=
  concatenate S32x96x98x96 2 [⟨S32x96x1x96, extractStridedSlice S32x96x1x96 ![0, 0, 0, 0] x slices_S32x96x96x96_S32x96x1x96_0_0_0_0⟩, ⟨S32x96x96x96, x⟩,
    ⟨S32x96x1x96, extractStridedSlice S32x96x1x96 ![0, 0, 95, 0] x slices_S32x96x96x96_S32x96x1x96_0_0_95_0⟩] concatenates_S32x96x1x96_S32x96x96x96_S32x96x1x96_S32x96x98x96_d2

/-- The images with their first and last columns repeated. -/
def moreCols (x : FVec F S32x96x98x96 .f32) : FVec F S32x96x98x98 .f32 :=
  concatenate S32x96x98x98 3 [⟨S32x96x98x1, extractStridedSlice S32x96x98x1 ![0, 0, 0, 0] x slices_S32x96x98x96_S32x96x98x1_0_0_0_0⟩, ⟨S32x96x98x96, x⟩,
    ⟨S32x96x98x1, extractStridedSlice S32x96x98x1 ![0, 0, 0, 95] x slices_S32x96x98x96_S32x96x98x1_0_0_0_95⟩] concatenates_S32x96x98x1_S32x96x98x96_S32x96x98x1_S32x96x98x98_d3

/-- A row followed by two zeros. -/
def tail2 (r : FVec F S32x96x1x96 .f32) : FVec F S32x96x1x98 .f32 :=
  pad S32x96x1x98 ![0, 0, 0, 0] ![0, 0, 0, 2] ![0, 0, 0, 0] r (id (constant S_ .f32 0x00000000#32)) pads_S32x96x1x96_S32x96x1x98_000_000_000_020 h_S_

/-- The means of a row's runs of three. -/
def meanRow (r : FVec F S32x96x1x96 .f32) : FVec F S32x96x1x96 .f32 :=
  Host.divf (addf (addf (extractStridedSlice S32x96x1x96 ![0, 0, 0, 0] (tail2 r) slices_S32x96x1x98_S32x96x1x96_0_0_0_0)
    (extractStridedSlice S32x96x1x96 ![0, 0, 0, 1] (tail2 r) slices_S32x96x1x98_S32x96x1x96_0_0_0_1))
    (extractStridedSlice S32x96x1x96 ![0, 0, 0, 2] (tail2 r) slices_S32x96x1x98_S32x96x1x96_0_0_0_2)) (broadcastInDim S32x96x1x96 ![] bcast_S_S32x96x1x96 (constant S_ .f32 0x40400000#32))

/-- The means along three columns. -/
def meanCol (c : FVec F S32x96x96x3 .f32) : FVec F S32x96x96x1 .f32 :=
  Host.divf (broadcastInDim S32x96x96x1 ![0, 1, 2] bcast_S32x96x96_S32x96x96x1_0_1_2 (Host.reduceAdd c (constant S_ .f32 0x00000000#32) reducesTo_S32x96x96x3_S32x96x96_d3 h_S_))
    (broadcastInDim S32x96x96x1 ![] bcast_S_S32x96x96x1 (constant S_ .f32 0x40400000#32))

/-- The images with their borders of means. -/
def bordered (x : FVec F S32x96x96x96 .f32) : FVec F S32x96x98x98 .f32 :=
  Host.scatter scatter_S32x96x98x98_S2_S32x96x96x1_0123_n_23_0 (fun _ b => b) (Host.scatter scatter_S32x96x98x98_S2_S32x96x96x1_0123_n_23_0 (fun _ b => b)
    (Host.scatter scatter_S32x96x98x98_S2_S32x96x1x96_0123_n_23_0 (fun _ b => b) (Host.scatter scatter_S32x96x98x98_S2_S32x96x1x96_0123_n_23_0 (fun _ b => b)
      (moreCols (moreRows x))
      (place 0#32 1#32) (meanRow (extractStridedSlice S32x96x1x96 ![0, 0, 0, 0] x slices_S32x96x96x96_S32x96x1x96_0_0_0_0)))
      (place 97#32 1#32) (meanRow (extractStridedSlice S32x96x1x96 ![0, 0, 95, 0] x slices_S32x96x96x96_S32x96x1x96_0_0_95_0)))
      (place 1#32 0#32) (meanCol (extractStridedSlice S32x96x96x3 ![0, 0, 0, 0] x slices_S32x96x96x96_S32x96x96x3_0_0_0_0)))
      (place 1#32 97#32) (meanCol (extractStridedSlice S32x96x96x3 ![0, 0, 0, 93] x slices_S32x96x96x96_S32x96x96x3_0_0_0_93))

/-- Image numbers counted from the end where negative. -/
def wrap (v : IVec S8 32) : IVec S8 32 :=
  select (cmpi .slt v (broadcastInDim S8 ![] bcast_S_S8 (constantI S_ 32 0#32))) (addi v (broadcastInDim S8 ![] bcast_S_S8 (constantI S_ 32 32#32))) v

/-- Eight image numbers, each with a position in the image. -/
def spots (v : IVec S8 32) (u : IVec S8x1 32) : IVec S8x2 32 :=
  concatenate S8x2 1 [⟨S8x1, broadcastInDim S8x1 ![0] bcast_S8_S8x1_0 (wrap v)⟩, ⟨S8x1, u⟩] concatenates_S8x1_S8x1_S8x2_d1

/-- One word, eight times, in a column. -/
def at8 (n : BitVec 32) : IVec S8x1 32 := broadcastInDim S8x1 ![] bcast_S_S8x1 (constantI S_ 32 n)
/-- One word, eight times, in a column, as the bottom row spells it. -/
def at8' (n : BitVec 32) : IVec S8x1 32 := broadcastInDim S8x1 ![0] bcast_S8_S8x1_0 (id (broadcastInDim S8 ![] bcast_S_S8 (constantI S_ 32 n)))

/-- Four image numbers in each of the two groups of sixteen. -/
def byRow (v : IVec S4 32) : IVec S8 32 :=
  addi (shapeCast S8 (broadcastInDim S2x4 ![0, 1] bcast_S1x4_S2x4_0_1 (shapeCast S1x4 v shapeCasts_S4_S1x4)) shapeCasts_S2x4_S8)
    (shapeCast S8 (broadcastInDim S2x4 ![0] bcast_S2_S2x4_0 (addi (broadcastInDim S2 ![] bcast_S_S2 (constantI S_ 32 0#32))
      (muli (broadcastInDim S2 ![] bcast_S_S2 (constantI S_ 32 16#32)) (iotaInDim S2 32 0)))) shapeCasts_S2x4_S8)

/-- Every fourth image number from `n` on. -/
def byCol (n : BitVec 32) : IVec S8 32 :=
  addi (broadcastInDim S8 ![] bcast_S_S8 (constantI S_ 32 n)) (muli (broadcastInDim S8 ![] bcast_S_S8 (constantI S_ 32 4#32)) (iotaInDim S8 32 0))

/-- The images and rows of the top border. -/
def topSpots : IVec S8x2 32 := spots (byRow (iotaInDim S4 32 0)) (at8 0#32)
/-- The images and rows of the bottom border. -/
def botSpots : IVec S8x2 32 := spots (byRow (addi (broadcastInDim S4 ![] bcast_S_S4 (constantI S_ 32 12#32)) (iotaInDim S4 32 0))) (at8' 97#32)
/-- The images and columns of the left border. -/
def leftSpots : IVec S8x2 32 := spots (byCol 0#32) (at8 0#32)
/-- The images and columns of the right border. -/
def rightSpots : IVec S8x2 32 := spots (byCol 3#32) (at8 97#32)

/-- The reference's result. -/
def refTerm (x : FVec F S32x96x96x96 .f32) : FVec F S32x96x98x98 .f32 :=
  Host.scatter scatter_S32x96x98x98_S8x2_S8x96x98x1_123_0_03_1 (fun _ b => b) (Host.scatter scatter_S32x96x98x98_S8x2_S8x96x98x1_123_0_03_1 (fun _ b => b)
    (Host.scatter scatter_S32x96x98x98_S8x2_S8x96x98_12_02_02_1 (fun _ b => b) (Host.scatter scatter_S32x96x98x98_S8x2_S8x96x1x98_123_0_02_1 (fun _ b => b)
      (bordered x)
      topSpots (broadcastInDim S8x96x1x98 ![] bcast_S_S8x96x1x98 (constant S_ .f32 0x00000000#32)))
      botSpots (broadcastInDim S8x96x98 ![] bcast_S_S8x96x98 (constant S_ .f32 0x00000000#32)))
      leftSpots (broadcastInDim S8x96x98x1 ![] bcast_S_S8x96x98x1 (constant S_ .f32 0x00000000#32)))
      rightSpots (broadcastInDim S8x96x98x1 ![] bcast_S_S8x96x98x1 (constant S_ .f32 0x00000000#32))

set_option maxRecDepth 8192 in
/-- The reference's result is its steps composed. -/
theorem res_eq (m : (ℓ : Loc nD τ sig) → Buf (Elt F) ℓ) (c : Dev nD) :
    Value.res_main_v127 m c = refTerm (m ((c.tc : Thread nD τ).loc main_arg0) : S32x96x96x96.Idx → F .f32) := rfl

/-! ## The index words -/

/-- The row of a place. -/
theorem place_0 (h w : BitVec 32) : place h w (ix1 (0 : Fin 2)) = h :=
  (concatenate_pair_apply_left (s₁ := S1) (s₂ := S1) (t := S2) 0 _ _ concatenates_S1_S1_S2_d0 (ix1 (0 : Fin 2)) rfl (ix1 (0 : Fin 1)) (fun b => by
    obtain rfl : b = (0 : Fin 1) := Subsingleton.elim (α := Fin 1) _ _
    rfl)).trans rfl

/-- The column of a place. -/
theorem place_1 (h w : BitVec 32) : place h w (ix1 (1 : Fin 2)) = w :=
  (concatenate_pair_apply_right (s₁ := S1) (s₂ := S1) (t := S2) 0 _ _ concatenates_S1_S1_S2_d0 (ix1 (1 : Fin 2)) rfl rfl (ix1 (0 : Fin 1)) (fun b hb => by
    obtain rfl : b = (0 : Fin 1) := Subsingleton.elim (α := Fin 1) _ _
    exact absurd rfl hb) rfl).trans rfl

/-- The images on the first row of the patch grid. -/
theorem top_0 : ∀ k : Fin 8, (topSpots (ix2 k (0 : Fin 2))).toInt = ((16 * (k.val / 4) + k.val % 4 : ℕ) : Int) := by decide +kernel
/-- Their top row. -/
theorem top_1 : ∀ k : Fin 8, (topSpots (ix2 k (1 : Fin 2))).toInt = 0 := by decide +kernel
/-- The images on the last row of the patch grid. -/
theorem bot_0 : ∀ k : Fin 8, (botSpots (ix2 k (0 : Fin 2))).toInt = ((16 * (k.val / 4) + 12 + k.val % 4 : ℕ) : Int) := by decide +kernel
/-- Their bottom row. -/
theorem bot_1 : ∀ k : Fin 8, (botSpots (ix2 k (1 : Fin 2))).toInt = 97 := by decide +kernel
/-- The images on the first column of the patch grid. -/
theorem left_0 : ∀ k : Fin 8, (leftSpots (ix2 k (0 : Fin 2))).toInt = ((4 * k.val : ℕ) : Int) := by decide +kernel
/-- Their left column. -/
theorem left_1 : ∀ k : Fin 8, (leftSpots (ix2 k (1 : Fin 2))).toInt = 0 := by decide +kernel
/-- The images on the last column of the patch grid. -/
theorem right_0 : ∀ k : Fin 8, (rightSpots (ix2 k (0 : Fin 2))).toInt = ((4 * k.val + 3 : ℕ) : Int) := by decide +kernel
/-- Their right column. -/
theorem right_1 : ∀ k : Fin 8, (rightSpots (ix2 k (1 : Fin 2))).toInt = 97 := by decide +kernel

/-! ## Where the updates land -/

/-- Where an element of a row that is set lands. -/
theorem lands_row (k : S32x96x1x96.Idx) (idx : IVec S2 32) (ι : S32x96x98x98.Idx) :
    scatter_S32x96x98x98_S2_S32x96x1x96_0123_n_23_0.resultIdx? k idx = some ι
      ↔ (k 0).val = (ι 0).val ∧ (k 1).val = (ι 1).val ∧ (idx (ix1 (0 : Fin 2))).toInt + ((k 2).val : Int) = ((ι 2).val : Int)
        ∧ (idx (ix1 (1 : Fin 2))).toInt + ((k 3).val : Int) = ((ι 3).val : Int) := by
  have s2 : scatter_S32x96x98x98_S2_S32x96x1x96_0123_n_23_0.siIdx k ⟨0, by decide⟩ = ix1 (0 : Fin 2) := funext fun a => by
    obtain rfl : a = (0 : Fin 1) := Subsingleton.elim (α := Fin 1) _ _
    rfl
  have s3 : scatter_S32x96x98x98_S2_S32x96x1x96_0123_n_23_0.siIdx k ⟨1, by decide⟩ = ix1 (1 : Fin 2) := funext fun a => by
    obtain rfl : a = (0 : Fin 1) := Subsingleton.elim (α := Fin 1) _ _
    rfl
  rw [resultIdx?_eq_some, ← s2, ← s3]
  constructor
  · intro h
    exact ⟨by have : (0 : Int) + ((k 0).val : Int) = _ := h 0; omega, by have : (0 : Int) + ((k 1).val : Int) = _ := h 1; omega, h 2, h 3⟩
  · rintro ⟨h0, h1, h2, h3⟩ a
    match a with
    | 0 => show (0 : Int) + ((k 0).val : Int) = _; omega
    | 1 => show (0 : Int) + ((k 1).val : Int) = _; omega
    | 2 => exact h2
    | 3 => exact h3

/-- Where an element of a column that is set lands. -/
theorem lands_col (k : S32x96x96x1.Idx) (idx : IVec S2 32) (ι : S32x96x98x98.Idx) :
    scatter_S32x96x98x98_S2_S32x96x96x1_0123_n_23_0.resultIdx? k idx = some ι
      ↔ (k 0).val = (ι 0).val ∧ (k 1).val = (ι 1).val ∧ (idx (ix1 (0 : Fin 2))).toInt + ((k 2).val : Int) = ((ι 2).val : Int)
        ∧ (idx (ix1 (1 : Fin 2))).toInt + ((k 3).val : Int) = ((ι 3).val : Int) := by
  have s2 : scatter_S32x96x98x98_S2_S32x96x96x1_0123_n_23_0.siIdx k ⟨0, by decide⟩ = ix1 (0 : Fin 2) := funext fun a => by
    obtain rfl : a = (0 : Fin 1) := Subsingleton.elim (α := Fin 1) _ _
    rfl
  have s3 : scatter_S32x96x98x98_S2_S32x96x96x1_0123_n_23_0.siIdx k ⟨1, by decide⟩ = ix1 (1 : Fin 2) := funext fun a => by
    obtain rfl : a = (0 : Fin 1) := Subsingleton.elim (α := Fin 1) _ _
    rfl
  rw [resultIdx?_eq_some, ← s2, ← s3]
  constructor
  · intro h
    exact ⟨by have : (0 : Int) + ((k 0).val : Int) = _ := h 0; omega, by have : (0 : Int) + ((k 1).val : Int) = _ := h 1; omega, h 2, h 3⟩
  · rintro ⟨h0, h1, h2, h3⟩ a
    match a with
    | 0 => show (0 : Int) + ((k 0).val : Int) = _; omega
    | 1 => show (0 : Int) + ((k 1).val : Int) = _; omega
    | 2 => exact h2
    | 3 => exact h3

/-- Where a zero of the top border lands. -/
theorem lands_top (k : S8x96x1x98.Idx) (idx : IVec S8x2 32) (ι : S32x96x98x98.Idx) :
    scatter_S32x96x98x98_S8x2_S8x96x1x98_123_0_02_1.resultIdx? k idx = some ι
      ↔ (idx (ix2 (k 0 : Fin 8) (0 : Fin 2))).toInt = ((ι 0).val : Int) ∧ (k 1).val = (ι 1).val
        ∧ (idx (ix2 (k 0 : Fin 8) (1 : Fin 2))).toInt + ((k 2).val : Int) = ((ι 2).val : Int) ∧ (k 3).val = (ι 3).val := by
  have s0 : scatter_S32x96x98x98_S8x2_S8x96x1x98_123_0_02_1.siIdx k ⟨0, by decide⟩ = ix2 (k 0 : Fin 8) (0 : Fin 2) := funext fun a => by
    match a with | 0 => rfl | 1 => rfl
  have s1 : scatter_S32x96x98x98_S8x2_S8x96x1x98_123_0_02_1.siIdx k ⟨1, by decide⟩ = ix2 (k 0 : Fin 8) (1 : Fin 2) := funext fun a => by
    match a with | 0 => rfl | 1 => rfl
  have e0 : (idx (ix2 (k 0 : Fin 8) (0 : Fin 2))).toInt = scatter_S32x96x98x98_S8x2_S8x96x1x98_123_0_02_1.start k idx 0 :=
    (congrArg (fun i => (idx i).toInt) s0).symm
  have e1 : (idx (ix2 (k 0 : Fin 8) (1 : Fin 2))).toInt = scatter_S32x96x98x98_S8x2_S8x96x1x98_123_0_02_1.start k idx 2 :=
    (congrArg (fun i => (idx i).toInt) s1).symm
  rw [resultIdx?_eq_some]
  constructor
  · intro h
    exact ⟨e0.trans ((Int.add_zero _).symm.trans (h 0)), by have : (0 : Int) + ((k 1).val : Int) = _ := h 1; omega, (congrArg (· + ((k 2).val : Int)) e1).trans (h 2),
      by have : (0 : Int) + ((k 3).val : Int) = _ := h 3; omega⟩
  · rintro ⟨h0, h1, h2, h3⟩ a
    match a with
    | 0 => exact (Int.add_zero _).trans (e0.symm.trans h0)
    | 1 => show (0 : Int) + ((k 1).val : Int) = _; omega
    | 2 => exact (congrArg (· + ((k 2).val : Int)) e1.symm).trans h2
    | 3 => show (0 : Int) + ((k 3).val : Int) = _; omega

/-- Where a zero of the bottom border lands. -/
theorem lands_bot (k : S8x96x98.Idx) (idx : IVec S8x2 32) (ι : S32x96x98x98.Idx) :
    scatter_S32x96x98x98_S8x2_S8x96x98_12_02_02_1.resultIdx? k idx = some ι
      ↔ (idx (ix2 (k 0 : Fin 8) (0 : Fin 2))).toInt = ((ι 0).val : Int) ∧ (k 1).val = (ι 1).val
        ∧ (idx (ix2 (k 0 : Fin 8) (1 : Fin 2))).toInt = ((ι 2).val : Int) ∧ (k 2).val = (ι 3).val := by
  have s0 : scatter_S32x96x98x98_S8x2_S8x96x98_12_02_02_1.siIdx k ⟨0, by decide⟩ = ix2 (k 0 : Fin 8) (0 : Fin 2) := funext fun a => by
    match a with | 0 => rfl | 1 => rfl
  have s1 : scatter_S32x96x98x98_S8x2_S8x96x98_12_02_02_1.siIdx k ⟨1, by decide⟩ = ix2 (k 0 : Fin 8) (1 : Fin 2) := funext fun a => by
    match a with | 0 => rfl | 1 => rfl
  have e0 : (idx (ix2 (k 0 : Fin 8) (0 : Fin 2))).toInt = scatter_S32x96x98x98_S8x2_S8x96x98_12_02_02_1.start k idx 0 :=
    (congrArg (fun i => (idx i).toInt) s0).symm
  have e1 : (idx (ix2 (k 0 : Fin 8) (1 : Fin 2))).toInt = scatter_S32x96x98x98_S8x2_S8x96x98_12_02_02_1.start k idx 2 :=
    (congrArg (fun i => (idx i).toInt) s1).symm
  rw [resultIdx?_eq_some]
  constructor
  · intro h
    exact ⟨e0.trans ((Int.add_zero _).symm.trans (h 0)), by have : (0 : Int) + ((k 1).val : Int) = _ := h 1; omega, e1.trans ((Int.add_zero _).symm.trans (h 2)),
      by have : (0 : Int) + ((k 2).val : Int) = _ := h 3; omega⟩
  · rintro ⟨h0, h1, h2, h3⟩ a
    match a with
    | 0 => exact (Int.add_zero _).trans (e0.symm.trans h0)
    | 1 => show (0 : Int) + ((k 1).val : Int) = _; omega
    | 2 => exact (Int.add_zero _).trans (e1.symm.trans h2)
    | 3 => show (0 : Int) + ((k 2).val : Int) = _; omega

/-- Where a zero of the left or right border lands. -/
theorem lands_side (k : S8x96x98x1.Idx) (idx : IVec S8x2 32) (ι : S32x96x98x98.Idx) :
    scatter_S32x96x98x98_S8x2_S8x96x98x1_123_0_03_1.resultIdx? k idx = some ι
      ↔ (idx (ix2 (k 0 : Fin 8) (0 : Fin 2))).toInt = ((ι 0).val : Int) ∧ (k 1).val = (ι 1).val ∧ (k 2).val = (ι 2).val
        ∧ (idx (ix2 (k 0 : Fin 8) (1 : Fin 2))).toInt + ((k 3).val : Int) = ((ι 3).val : Int) := by
  have s0 : scatter_S32x96x98x98_S8x2_S8x96x98x1_123_0_03_1.siIdx k ⟨0, by decide⟩ = ix2 (k 0 : Fin 8) (0 : Fin 2) := funext fun a => by
    match a with | 0 => rfl | 1 => rfl
  have s1 : scatter_S32x96x98x98_S8x2_S8x96x98x1_123_0_03_1.siIdx k ⟨1, by decide⟩ = ix2 (k 0 : Fin 8) (1 : Fin 2) := funext fun a => by
    match a with | 0 => rfl | 1 => rfl
  have e0 : (idx (ix2 (k 0 : Fin 8) (0 : Fin 2))).toInt = scatter_S32x96x98x98_S8x2_S8x96x98x1_123_0_03_1.start k idx 0 :=
    (congrArg (fun i => (idx i).toInt) s0).symm
  have e1 : (idx (ix2 (k 0 : Fin 8) (1 : Fin 2))).toInt = scatter_S32x96x98x98_S8x2_S8x96x98x1_123_0_03_1.start k idx 3 :=
    (congrArg (fun i => (idx i).toInt) s1).symm
  rw [resultIdx?_eq_some]
  constructor
  · intro h
    exact ⟨e0.trans ((Int.add_zero _).symm.trans (h 0)), by have : (0 : Int) + ((k 1).val : Int) = _ := h 1; omega,
      by have : (0 : Int) + ((k 2).val : Int) = _ := h 2; omega, (congrArg (· + ((k 3).val : Int)) e1).trans (h 3)⟩
  · rintro ⟨h0, h1, h2, h3⟩ a
    match a with
    | 0 => exact (Int.add_zero _).trans (e0.symm.trans h0)
    | 1 => show (0 : Int) + ((k 1).val : Int) = _; omega
    | 2 => show (0 : Int) + ((k 2).val : Int) = _; omega
    | 3 => exact (congrArg (· + ((k 3).val : Int)) e1.symm).trans h3

/-! ## The scatters read at an index -/

/-- A row of an image written at `[h, 1]`. -/
theorem set_row (h : BitVec 32) (hn : ℕ) (hh : h.toInt = (hn : Int)) (x0 : FVec F S32x96x98x98 .f32) (u : FVec F S32x96x1x96 .f32) (b : Fin 32) (ch : Fin 96) (r c : Fin 98) :
    Host.scatter scatter_S32x96x98x98_S2_S32x96x1x96_0123_n_23_0 (fun _ b => b) x0 (place h 1#32) u (ix4 b ch r c)
      = if hc : r.val = hn ∧ 1 ≤ c.val ∧ c.val ≤ 96 then u (ix4 b ch (0 : Fin 1) (⟨c.val - 1, by omega⟩ : Fin 96)) else x0 (ix4 b ch r c) := by
  have e1 : (1#32).toInt = 1 := rfl
  by_cases hc : r.val = hn ∧ 1 ≤ c.val ∧ c.val ≤ 96
  · rw [dif_pos hc]
    refine scatter_set_hit _ _ _ _ _ _ (fun k hk => ?_) (ix4 b ch (0 : Fin 1) (⟨c.val - 1, by omega⟩ : Fin 96)) ?_
    · rw [lands_row, place_0, place_1, e1] at hk
      obtain ⟨k0, k1, -, k3⟩ := hk
      replace k0 : (k 0).val = b.val := k0
      replace k1 : (k 1).val = ch.val := k1
      replace k3 : (1 : Int) + ((k 3).val : Int) = (c.val : Int) := k3
      refine congrArg u (funext fun a => ?_)
      match a with
      | 0 => exact Fin.ext k0
      | 1 => exact Fin.ext k1
      | 2 => exact Subsingleton.elim (α := Fin 1) _ _
      | 3 => exact Fin.ext (show (k 3).val = c.val - 1 by omega)
    · rw [lands_row, place_0, place_1, e1, hh]
      refine ⟨rfl, rfl, ?_, ?_⟩
      · show (hn : Int) + ((0 : ℕ) : Int) = (r.val : Int)
        omega
      · show (1 : Int) + ((c.val - 1 : ℕ) : Int) = (c.val : Int)
        omega
  · rw [dif_neg hc]
    refine scatter_set_miss _ _ _ _ _ fun k hk => hc ?_
    rw [lands_row, place_0, place_1, e1, hh] at hk
    obtain ⟨-, -, k2, k3⟩ := hk
    replace k2 : (hn : Int) + ((k 2).val : Int) = (r.val : Int) := k2
    replace k3 : (1 : Int) + ((k 3).val : Int) = (c.val : Int) := k3
    have h2 : (k 2).val < 1 := (k 2).isLt
    have h3 : (k 3).val < 96 := (k 3).isLt
    omega

/-- A column of an image written at `[1, w]`. -/
theorem set_col (w : BitVec 32) (wn : ℕ) (hw : w.toInt = (wn : Int)) (x0 : FVec F S32x96x98x98 .f32) (u : FVec F S32x96x96x1 .f32) (b : Fin 32) (ch : Fin 96) (r c : Fin 98) :
    Host.scatter scatter_S32x96x98x98_S2_S32x96x96x1_0123_n_23_0 (fun _ b => b) x0 (place 1#32 w) u (ix4 b ch r c)
      = if hc : c.val = wn ∧ 1 ≤ r.val ∧ r.val ≤ 96 then u (ix4 b ch (⟨r.val - 1, by omega⟩ : Fin 96) (0 : Fin 1)) else x0 (ix4 b ch r c) := by
  have e1 : (1#32).toInt = 1 := rfl
  by_cases hc : c.val = wn ∧ 1 ≤ r.val ∧ r.val ≤ 96
  · rw [dif_pos hc]
    refine scatter_set_hit _ _ _ _ _ _ (fun k hk => ?_) (ix4 b ch (⟨r.val - 1, by omega⟩ : Fin 96) (0 : Fin 1)) ?_
    · rw [lands_col, place_0, place_1, e1] at hk
      obtain ⟨k0, k1, k2, -⟩ := hk
      replace k0 : (k 0).val = b.val := k0
      replace k1 : (k 1).val = ch.val := k1
      replace k2 : (1 : Int) + ((k 2).val : Int) = (r.val : Int) := k2
      refine congrArg u (funext fun a => ?_)
      match a with
      | 0 => exact Fin.ext k0
      | 1 => exact Fin.ext k1
      | 2 => exact Fin.ext (show (k 2).val = r.val - 1 by omega)
      | 3 => exact Subsingleton.elim (α := Fin 1) _ _
    · rw [lands_col, place_0, place_1, e1, hw]
      refine ⟨rfl, rfl, ?_, ?_⟩
      · show (1 : Int) + ((r.val - 1 : ℕ) : Int) = (r.val : Int)
        omega
      · show (wn : Int) + ((0 : ℕ) : Int) = (c.val : Int)
        omega
  · rw [dif_neg hc]
    refine scatter_set_miss _ _ _ _ _ fun k hk => hc ?_
    rw [lands_col, place_0, place_1, e1, hw] at hk
    obtain ⟨-, -, k2, k3⟩ := hk
    replace k2 : (1 : Int) + ((k 2).val : Int) = (r.val : Int) := k2
    replace k3 : (wn : Int) + ((k 3).val : Int) = (c.val : Int) := k3
    have h2 : (k 2).val < 96 := (k 2).isLt
    have h3 : (k 3).val < 1 := (k 3).isLt
    omega

/-- The first rows of the images on top set to `z`. -/
theorem set_top (x0 : FVec F S32x96x98x98 .f32) (z : F .f32) (b : Fin 32) (ch : Fin 96) (r c : Fin 98) :
    Host.scatter scatter_S32x96x98x98_S8x2_S8x96x1x98_123_0_02_1 (fun _ b => b) x0 topSpots (fun _ => z) (ix4 b ch r c)
      = if r.val = 0 ∧ b.val % 16 < 4 then z else x0 (ix4 b ch r c) := by
  have hb := b.isLt
  by_cases hc : r.val = 0 ∧ b.val % 16 < 4
  · rw [if_pos hc]
    refine scatter_set_hit _ _ _ _ _ _ (fun _ _ => rfl) (ix4 (⟨4 * (b.val / 16) + b.val % 16, by omega⟩ : Fin 8) ch (0 : Fin 1) c) ?_
    rw [lands_top]
    refine ⟨(top_0 _).trans ?_, rfl, ?_, rfl⟩
    · show ((16 * ((4 * (b.val / 16) + b.val % 16) / 4) + (4 * (b.val / 16) + b.val % 16) % 4 : ℕ) : Int) = (b.val : Int)
      omega
    · refine (congrArg (· + ((0 : ℕ) : Int)) (top_1 _)).trans ?_
      show (0 : Int) + ((0 : ℕ) : Int) = (r.val : Int)
      omega
  · rw [if_neg hc]
    refine scatter_set_miss _ _ _ _ _ fun k hk => hc ?_
    obtain ⟨k0, -, k2, -⟩ := (lands_top _ _ _).mp hk
    replace k0 : ((16 * ((k 0).val / 4) + (k 0).val % 4 : ℕ) : Int) = (b.val : Int) := (top_0 (k 0)).symm.trans k0
    replace k2 : (0 : Int) + ((k 2).val : Int) = (r.val : Int) := (congrArg (· + ((k 2).val : Int)) (top_1 (k 0)).symm).trans k2
    have h2 : (k 2).val < 1 := (k 2).isLt
    omega

/-- The last rows of the images at the bottom set to `z`. -/
theorem set_bot (x0 : FVec F S32x96x98x98 .f32) (z : F .f32) (b : Fin 32) (ch : Fin 96) (r c : Fin 98) :
    Host.scatter scatter_S32x96x98x98_S8x2_S8x96x98_12_02_02_1 (fun _ b => b) x0 botSpots (fun _ => z) (ix4 b ch r c)
      = if r.val = 97 ∧ 12 ≤ b.val % 16 then z else x0 (ix4 b ch r c) := by
  have hb := b.isLt
  by_cases hc : r.val = 97 ∧ 12 ≤ b.val % 16
  · rw [if_pos hc]
    refine scatter_set_hit _ _ _ _ _ _ (fun _ _ => rfl) (ix3 (⟨4 * (b.val / 16) + (b.val % 16 - 12), by omega⟩ : Fin 8) ch c) ?_
    rw [lands_bot]
    refine ⟨(bot_0 _).trans ?_, rfl, ?_, rfl⟩
    · show ((16 * ((4 * (b.val / 16) + (b.val % 16 - 12)) / 4) + 12 + (4 * (b.val / 16) + (b.val % 16 - 12)) % 4 : ℕ) : Int) = (b.val : Int)
      omega
    · refine (bot_1 _).trans ?_
      show (97 : Int) = (r.val : Int)
      omega
  · rw [if_neg hc]
    refine scatter_set_miss _ _ _ _ _ fun k hk => hc ?_
    obtain ⟨k0, -, k2, -⟩ := (lands_bot _ _ _).mp hk
    replace k0 : ((16 * ((k 0).val / 4) + 12 + (k 0).val % 4 : ℕ) : Int) = (b.val : Int) := (bot_0 (k 0)).symm.trans k0
    replace k2 : (97 : Int) = (r.val : Int) := (bot_1 (k 0)).symm.trans k2
    omega

/-- The columns `w` of the images that `g` numbers set to `z`. -/
theorem set_side (idx : IVec S8x2 32) (g : ℕ → ℕ) (wn : ℕ) (h0 : ∀ k : Fin 8, (idx (ix2 k (0 : Fin 2))).toInt = ((g k.val : ℕ) : Int))
    (h1 : ∀ k : Fin 8, (idx (ix2 k (1 : Fin 2))).toInt = (wn : Int)) (x0 : FVec F S32x96x98x98 .f32) (z : F .f32) (b : Fin 32) (ch : Fin 96) (r c : Fin 98) (φ : Prop)
    [Decidable φ] (hφ : φ ↔ ∃ k : Fin 8, g k.val = b.val) :
    Host.scatter scatter_S32x96x98x98_S8x2_S8x96x98x1_123_0_03_1 (fun _ b => b) x0 idx (fun _ => z) (ix4 b ch r c)
      = if c.val = wn ∧ φ then z else x0 (ix4 b ch r c) := by
  by_cases hc : c.val = wn ∧ φ
  · rw [if_pos hc]
    obtain ⟨hw, hb⟩ := hc
    obtain ⟨k, hk⟩ := hφ.mp hb
    refine scatter_set_hit _ _ _ _ _ _ (fun _ _ => rfl) (ix4 k ch r (0 : Fin 1)) ?_
    rw [lands_side]
    refine ⟨(h0 k).trans (congrArg Nat.cast hk), rfl, rfl, ?_⟩
    refine (congrArg (· + ((0 : ℕ) : Int)) (h1 _)).trans ?_
    show (wn : Int) + ((0 : ℕ) : Int) = (c.val : Int)
    omega
  · rw [if_neg hc]
    refine scatter_set_miss _ _ _ _ _ fun k hk => hc ?_
    obtain ⟨k0, -, -, k3⟩ := (lands_side _ _ _).mp hk
    replace k0 : ((g (k 0).val : ℕ) : Int) = (b.val : Int) := (h0 (k 0)).symm.trans k0
    replace k3 : (wn : Int) + ((k 3).val : Int) = (c.val : Int) := (congrArg (· + ((k 3).val : Int)) (h1 (k 0)).symm).trans k3
    have h3 : (k 3).val < 1 := (k 3).isLt
    exact ⟨by omega, hφ.mpr ⟨k 0, by omega⟩⟩

/-! ## The other steps read at an index -/

/-- The images' first row. -/
theorem row_at (x : FVec F S32x96x96x96 .f32) (b : Fin 32) (ch : Fin 96) (c : Fin 96) :
    extractStridedSlice S32x96x1x96 ![0, 0, 0, 0] x slices_S32x96x96x96_S32x96x1x96_0_0_0_0 (ix4 b ch (0 : Fin 1) c) = x (ix4 b ch (0 : Fin 96) c) :=
  extractStridedSlice_apply _ _ _ _ _ fun a => by
    match a with
    | 0 => exact (Nat.zero_add _).symm
    | 1 => exact (Nat.zero_add _).symm
    | 2 => rfl
    | 3 => exact (Nat.zero_add _).symm

/-- The images' last row. -/
theorem row_at' (x : FVec F S32x96x96x96 .f32) (b : Fin 32) (ch : Fin 96) (c : Fin 96) :
    extractStridedSlice S32x96x1x96 ![0, 0, 95, 0] x slices_S32x96x96x96_S32x96x1x96_0_0_95_0 (ix4 b ch (0 : Fin 1) c) = x (ix4 b ch (95 : Fin 96) c) :=
  extractStridedSlice_apply _ _ _ _ _ fun a => by
    match a with
    | 0 => exact (Nat.zero_add _).symm
    | 1 => exact (Nat.zero_add _).symm
    | 2 => rfl
    | 3 => exact (Nat.zero_add _).symm

/-- The images' first three columns. -/
theorem cols_at (x : FVec F S32x96x96x96 .f32) (b : Fin 32) (ch : Fin 96) (r : Fin 96) (k : Fin 3) :
    extractStridedSlice S32x96x96x3 ![0, 0, 0, 0] x slices_S32x96x96x96_S32x96x96x3_0_0_0_0 (ix4 b ch r k) = x (ix4 b ch r (⟨k.val, by omega⟩ : Fin 96)) :=
  extractStridedSlice_apply _ _ _ _ _ fun a => by
    match a with
    | 0 => exact (Nat.zero_add _).symm
    | 1 => exact (Nat.zero_add _).symm
    | 2 => exact (Nat.zero_add _).symm
    | 3 => exact (Nat.zero_add _).symm

/-- The images' last three columns. -/
theorem cols_at' (x : FVec F S32x96x96x96 .f32) (b : Fin 32) (ch : Fin 96) (r : Fin 96) (k : Fin 3) :
    extractStridedSlice S32x96x96x3 ![0, 0, 0, 93] x slices_S32x96x96x96_S32x96x96x3_0_0_0_93 (ix4 b ch r k) = x (ix4 b ch r (⟨93 + k.val, by omega⟩ : Fin 96)) :=
  extractStridedSlice_apply _ _ _ _ _ fun a => by
    match a with
    | 0 => exact (Nat.zero_add _).symm
    | 1 => exact (Nat.zero_add _).symm
    | 2 => exact (Nat.zero_add _).symm
    | 3 => rfl

/-- The row or column a border position repeats. -/
def clamp (n : Fin 98) : Fin 96 := ⟨min (n.val - 1) 95, by omega⟩

/-- The images with their first and last rows repeated, at a position. -/
theorem moreRows_at (x : FVec F S32x96x96x96 .f32) (b : Fin 32) (ch : Fin 96) (r : Fin 98) (c : Fin 96) :
    moreRows x (ix4 b ch r c) = x (ix4 b ch (clamp r) c) := by
  have hr := r.isLt
  unfold moreRows
  by_cases h0 : r.val = 0
  · refine Eq.trans (concatenate_apply_piece (t := S32x96x98x96) 2 _ _ (ix4 b ch r c) 0 (by show 0 < 3; omega) S32x96x1x96 _ rfl rfl 0 rfl (ix4 b ch (0 : Fin 1) c)
      (fun a ha => ?_) ?_) ((row_at x b ch c).trans ?_)
    · match a with
      | 0 => rfl
      | 1 => rfl
      | 2 => exact absurd rfl ha
      | 3 => rfl
    · show 0 + 0 = r.val
      omega
    · exact congrArg (fun k => x (ix4 b ch k c)) (Fin.ext (show 0 = min (r.val - 1) 95 by omega))
  by_cases h1 : r.val = 97
  · refine Eq.trans (concatenate_apply_piece (t := S32x96x98x96) 2 _ _ (ix4 b ch r c) 2 (by show 2 < 3; omega) S32x96x1x96 _ rfl rfl 97 rfl (ix4 b ch (0 : Fin 1) c)
      (fun a ha => ?_) ?_) ((row_at' x b ch c).trans ?_)
    · match a with
      | 0 => rfl
      | 1 => rfl
      | 2 => exact absurd rfl ha
      | 3 => rfl
    · show 97 + 0 = r.val
      omega
    · exact congrArg (fun k => x (ix4 b ch k c)) (Fin.ext (show 95 = min (r.val - 1) 95 by omega))
  · refine (concatenate_apply_piece (t := S32x96x98x96) 2 _ _ (ix4 b ch r c) 1 (by show 1 < 3; omega) S32x96x96x96 _ rfl rfl 1 rfl (ix4 b ch (clamp r) c)
      (fun a ha => ?_) ?_)
    · match a with
      | 0 => rfl
      | 1 => rfl
      | 2 => exact absurd rfl ha
      | 3 => rfl
    · show 1 + min (r.val - 1) 95 = r.val
      omega

/-- The first column. -/
theorem col_at (x : FVec F S32x96x98x96 .f32) (b : Fin 32) (ch : Fin 96) (r : Fin 98) :
    extractStridedSlice S32x96x98x1 ![0, 0, 0, 0] x slices_S32x96x98x96_S32x96x98x1_0_0_0_0 (ix4 b ch r (0 : Fin 1)) = x (ix4 b ch r (0 : Fin 96)) :=
  extractStridedSlice_apply _ _ _ _ _ fun a => by
    match a with
    | 0 => exact (Nat.zero_add _).symm
    | 1 => exact (Nat.zero_add _).symm
    | 2 => exact (Nat.zero_add _).symm
    | 3 => rfl

/-- The last column. -/
theorem col_at' (x : FVec F S32x96x98x96 .f32) (b : Fin 32) (ch : Fin 96) (r : Fin 98) :
    extractStridedSlice S32x96x98x1 ![0, 0, 0, 95] x slices_S32x96x98x96_S32x96x98x1_0_0_0_95 (ix4 b ch r (0 : Fin 1)) = x (ix4 b ch r (95 : Fin 96)) :=
  extractStridedSlice_apply _ _ _ _ _ fun a => by
    match a with
    | 0 => exact (Nat.zero_add _).symm
    | 1 => exact (Nat.zero_add _).symm
    | 2 => exact (Nat.zero_add _).symm
    | 3 => rfl

/-- The images with their first and last columns repeated, at a position. -/
theorem moreCols_at (x : FVec F S32x96x98x96 .f32) (b : Fin 32) (ch : Fin 96) (r c : Fin 98) :
    moreCols x (ix4 b ch r c) = x (ix4 b ch r (clamp c)) := by
  have hc := c.isLt
  unfold moreCols
  by_cases h0 : c.val = 0
  · refine Eq.trans (concatenate_apply_piece (t := S32x96x98x98) 3 _ _ (ix4 b ch r c) 0 (by show 0 < 3; omega) S32x96x98x1 _ rfl rfl 0 rfl (ix4 b ch r (0 : Fin 1))
      (fun a ha => ?_) ?_) ((col_at x b ch r).trans ?_)
    · match a with
      | 0 => rfl
      | 1 => rfl
      | 2 => rfl
      | 3 => exact absurd rfl ha
    · show 0 + 0 = c.val
      omega
    · exact congrArg (fun k => x (ix4 b ch r k)) (Fin.ext (show 0 = min (c.val - 1) 95 by omega))
  by_cases h1 : c.val = 97
  · refine Eq.trans (concatenate_apply_piece (t := S32x96x98x98) 3 _ _ (ix4 b ch r c) 2 (by show 2 < 3; omega) S32x96x98x1 _ rfl rfl 97 rfl (ix4 b ch r (0 : Fin 1))
      (fun a ha => ?_) ?_) ((col_at' x b ch r).trans ?_)
    · match a with
      | 0 => rfl
      | 1 => rfl
      | 2 => rfl
      | 3 => exact absurd rfl ha
    · show 97 + 0 = c.val
      omega
    · exact congrArg (fun k => x (ix4 b ch r k)) (Fin.ext (show 95 = min (c.val - 1) 95 by omega))
  · refine (concatenate_apply_piece (t := S32x96x98x98) 3 _ _ (ix4 b ch r c) 1 (by show 1 < 3; omega) S32x96x98x96 _ rfl rfl 1 rfl (ix4 b ch r (clamp c))
      (fun a ha => ?_) ?_)
    · match a with
      | 0 => rfl
      | 1 => rfl
      | 2 => rfl
      | 3 => exact absurd rfl ha
    · show 1 + min (c.val - 1) 95 = c.val
      omega

/-! ## The result on the extended reals -/

open Cert.Border

/-- An image of channel `ch`, laid flat. -/
def img (x : S32x96x96x96.Idx → EReal) (b : Fin 32) (ch : Fin 96) : ℕ → EReal :=
  fun n => x (ix4 b ch (⟨n / 96 % 96, Nat.mod_lt _ (by omega)⟩ : Fin 96) (⟨n % 96, Nat.mod_lt _ (by omega)⟩ : Fin 96))

/-- An element of an image, by its position in the flat image. -/
theorem img_eq (x : S32x96x96x96.Idx → EReal) (b : Fin 32) (ch : Fin 96) (r c : Fin 96) (n : ℕ) (h : n = 96 * r.val + c.val) :
    x (ix4 b ch r c) = img x b ch n := by
  have hr := r.isLt
  have hc := c.isLt
  have e1 : r = (⟨n / 96 % 96, Nat.mod_lt _ (by omega)⟩ : Fin 96) := Fin.ext (show r.val = n / 96 % 96 by omega)
  have e2 : c = (⟨n % 96, Nat.mod_lt _ (by omega)⟩ : Fin 96) := Fin.ext (show c.val = n % 96 by omega)
  unfold img
  rw [← e1, ← e2]

/-- A row followed by two zeros, at a position. -/
theorem tail2_at (u : FVec Ideal S32x96x1x96 .f32) (b : Fin 32) (ch : Fin 96) (c : Fin 98) :
    tail2 u (ix4 b ch (0 : Fin 1) c) = if h : c.val < 96 then u (ix4 b ch (0 : Fin 1) (⟨c.val, h⟩ : Fin 96)) else (0 : EReal) := by
  unfold tail2
  by_cases h : c.val < 96
  · rw [dif_pos h]
    refine pad_apply_of_inside _ _ _ _ _ _ _ _ _ fun a => ?_
    match a with
    | 0 => show b.val = 0 + b.val * (0 + 1); omega
    | 1 => show ch.val = 0 + ch.val * (0 + 1); omega
    | 2 => rfl
    | 3 => show c.val = 0 + c.val * (0 + 1); omega
  · rw [dif_neg h]
    refine (pad_apply_of_not_inside _ _ _ _ _ _ _ _ (3 : Fin 4) fun hc => h ?_).trans ofBits_0
    have := hc.2.2
    replace this : (c.val - 0) / (0 + 1) < 96 := this
    omega

/-- One of the three shifted parts of a padded row. -/
theorem part_at (u : FVec Ideal S32x96x1x98 .f32) (o : ℕ) (ho : o ≤ 2) (hs : S32x96x1x98.Slices ![0, 0, 0, o] S32x96x1x96) (b : Fin 32) (ch : Fin 96) (c : Fin 96) :
    extractStridedSlice S32x96x1x96 ![0, 0, 0, o] u hs (ix4 b ch (0 : Fin 1) c) = u (ix4 b ch (0 : Fin 1) (⟨o + c.val, by omega⟩ : Fin 98)) :=
  extractStridedSlice_apply _ _ _ _ _ fun a => by
    match a with
    | 0 => exact (Nat.zero_add _).symm
    | 1 => exact (Nat.zero_add _).symm
    | 2 => rfl
    | 3 => rfl

/-- The means of three along a row. -/
theorem meanRow_at (u : FVec Ideal S32x96x1x96 .f32) (y : ℕ → EReal) (r : ℕ) (b : Fin 32) (ch : Fin 96) (c : Fin 96)
    (hu : ∀ c : Fin 96, u (ix4 b ch (0 : Fin 1) c) = y (96 * r + c.val)) :
    meanRow u (ix4 b ch (0 : Fin 1) c) = (rowz y r c.val + rowz y r (c.val + 1) + rowz y r (c.val + 2)) * t3 := by
  have ht : ∀ k : Fin 98, tail2 u (ix4 b ch (0 : Fin 1) k) = rowz y r k.val := fun k => by
    rw [tail2_at]
    unfold rowz
    by_cases h : k.val < 96
    · rw [dif_pos h, if_pos h, hu]
    · rw [dif_neg h, if_neg h]
  have hp : ∀ (o : ℕ) (ho : o ≤ 2) (hs : S32x96x1x98.Slices ![0, 0, 0, o] S32x96x1x96),
      extractStridedSlice S32x96x1x96 ![0, 0, 0, o] (tail2 u) hs (ix4 b ch (0 : Fin 1) c) = rowz y r (c.val + o) := fun o ho hs => by
    rw [part_at _ o ho, ht]
    exact congrArg (rowz y r) (Nat.add_comm _ _)
  show Ideal.div (_ + _ + _) (Ideal.ofBits .f32 0x40400000#32) = _
  rw [ofBits_3, div_3]
  exact congrArg (· * t3) (congrArg₂ (· + ·) (congrArg₂ (· + ·) (hp 0 (by omega) _) (hp 1 (by omega) _)) (hp 2 (by omega) _))

/-- The mean of three columns. -/
theorem meanCol_at (u : FVec Ideal S32x96x96x3 .f32) (y : ℕ → EReal) (n : ℕ) (b : Fin 32) (ch : Fin 96) (r : Fin 96)
    (hu : ∀ c : Fin 3, u (ix4 b ch r c) = y (n + c.val)) :
    meanCol u (ix4 b ch r (0 : Fin 1)) = (y n + y (n + 1) + y (n + 2)) * t3 := by
  show Ideal.div (Ideal.hostReduceAdd _ u (Ideal.ofBits .f32 0x00000000#32) _) (Ideal.ofBits .f32 0x40400000#32) = _
  rw [ofBits_3, div_3, ofBits_0]
  refine congrArg (· * t3) ?_
  refine (Ideal.hostReduceAdd_r4_a3 _ _ _ _).trans ?_
  rw [zero_add, Fin.sum_univ_three]
  exact congrArg₂ (· + ·) (congrArg₂ (· + ·) (hu 0) (hu 1)) (hu 2)

/-- The images on the last column of the patch grid. -/
theorem right_mem (b : Fin 32) : b.val % 4 = 3 ↔ ∃ k : Fin 8, (fun n => 4 * n + 3) k.val = b.val :=
  ⟨fun h => ⟨⟨b.val / 4, by omega⟩, show 4 * (b.val / 4) + 3 = b.val by omega⟩, fun ⟨k, h⟩ => by
    replace h : 4 * k.val + 3 = b.val := h
    omega⟩

/-- The images on the first column of the patch grid. -/
theorem left_mem (b : Fin 32) : b.val % 4 = 0 ↔ ∃ k : Fin 8, (fun n => 4 * n) k.val = b.val :=
  ⟨fun h => ⟨⟨b.val / 4, by omega⟩, show 4 * (b.val / 4) = b.val by omega⟩, fun ⟨k, h⟩ => by
    replace h : 4 * k.val = b.val := h
    omega⟩

/-- The reference computes the padded images. -/
theorem refTerm_at (x : S32x96x96x96.Idx → EReal) (b : Fin 32) (ch : Fin 96) (h w : Fin 98) :
    refTerm (F := Ideal) x (ix4 b ch h w) = border (img x b ch) b.val h.val w.val := by
  have hh := h.isLt
  have hw := w.isLt
  have z : ∀ {s : Shape} (hb : S_.BroadcastsInDim s ![]), broadcastInDim s ![] hb (constant (F := Ideal) S_ .f32 0x00000000#32) = fun _ => (0 : EReal) :=
    fun hb => funext fun _ => ofBits_0
  unfold refTerm border
  rw [z, z, z, set_side rightSpots (fun n => 4 * n + 3) 97 right_0 right_1 _ _ b ch h w (b.val % 4 = 3) (right_mem b)]
  refine if_congr Iff.rfl rfl ?_
  rw [set_side leftSpots (fun n => 4 * n) 0 left_0 left_1 _ _ b ch h w (b.val % 4 = 0) (left_mem b)]
  refine if_congr Iff.rfl rfl ?_
  rw [set_bot]
  refine if_congr Iff.rfl rfl ?_
  rw [set_top]
  refine if_congr Iff.rfl rfl ?_
  unfold bordered
  rw [set_col 97#32 97 rfl]
  by_cases h1 : w.val = 97 ∧ 1 ≤ h.val ∧ h.val ≤ 96
  · rw [dif_pos h1, if_pos h1]
    exact meanCol_at _ (img x b ch) (96 * (h.val - 1) + 93) b ch _ fun c => Eq.trans (cols_at' (F := Ideal) x b ch _ c)
      (img_eq x b ch _ _ _ (show 96 * (h.val - 1) + 93 + c.val = 96 * (h.val - 1) + (93 + c.val) by omega))
  rw [dif_neg h1, if_neg h1, set_col 0#32 0 rfl]
  by_cases h2 : w.val = 0 ∧ 1 ≤ h.val ∧ h.val ≤ 96
  · rw [dif_pos h2, if_pos h2]
    exact meanCol_at _ (img x b ch) (96 * (h.val - 1)) b ch _ fun c => Eq.trans (cols_at (F := Ideal) x b ch _ c) (img_eq x b ch _ _ _ rfl)
  rw [dif_neg h2, if_neg h2, set_row 97#32 97 rfl]
  by_cases h3 : h.val = 97 ∧ 1 ≤ w.val ∧ w.val ≤ 96
  · rw [dif_pos h3, if_pos h3]
    refine (meanRow_at _ (img x b ch) 95 b ch _ fun c => Eq.trans (row_at' (F := Ideal) x b ch c) (img_eq x b ch _ _ _ rfl)).trans ?_
    show (rowz _ _ (w.val - 1) + rowz _ _ (w.val - 1 + 1) + rowz _ _ (w.val - 1 + 2)) * t3 = _
    rw [show w.val - 1 + 1 = w.val by omega, show w.val - 1 + 2 = w.val + 1 by omega]
  rw [dif_neg h3, if_neg h3, set_row 0#32 0 rfl]
  by_cases h4 : h.val = 0 ∧ 1 ≤ w.val ∧ w.val ≤ 96
  · rw [dif_pos h4, if_pos h4]
    refine (meanRow_at _ (img x b ch) 0 b ch _ fun c => Eq.trans (row_at (F := Ideal) x b ch c) (img_eq x b ch _ _ _ rfl)).trans ?_
    show (rowz _ _ (w.val - 1) + rowz _ _ (w.val - 1 + 1) + rowz _ _ (w.val - 1 + 2)) * t3 = _
    rw [show w.val - 1 + 1 = w.val by omega, show w.val - 1 + 2 = w.val + 1 by omega]
  rw [dif_neg h4, if_neg h4, moreCols_at, moreRows_at]
  exact img_eq x b ch _ _ _ rfl

end Cert.ReferenceIdeal.Pad

end
-- ==== Proof.KernelIdeal.Value.lean ====
/-
  The kernel's result on the extended reals: the padded images.
-/
module

public import proofs.«01_k».proof.Proof.KernelIdeal.Launch
public import proofs.«01_k».proof.Proof.ReferenceIdeal.Terms
public import Idealize.ShloMosaic.PureOps.IdealRules

@[expose] public section

noncomputable section

namespace Cert.KernelIdeal.Pad

open Cert.KernelIdeal Cert.KernelIdeal.Gen Cert.Border
open Idealize.ShloMosaic hiding ix1 ix2 ix3 ix4 eq_ix1 eq_ix2 eq_ix3 eq_ix4
open Idealize.ShloMosaic.ValueIdx

/-! ## The masks -/

/-- The choice between zero and one. -/
theorem mask_of (b : BitVec 1) (p : Prop) [Decidable p] (h : b = 1 ↔ p) :
    Scalar.select b (Scalar.ofBits (F := Ideal) .f32 0x00000000#32) (Scalar.ofBits .f32 0x3F800000#32) = (if p then 0 else 1 : EReal) := by
  unfold Scalar.select
  exact if_congr h ofBits_0 ofBits_1

/-- The top mask is zero on the patch grid's first row, else one. -/
theorem tz_at (c : Fin 2) (s : Fin 16) : tz (F := Ideal) (pt c.val s.val) = (if grp (pt c.val s.val) % 16 < 4 then 0 else 1 : EReal) := by
  refine mask_of _ _ ?_
  revert c s
  decide +kernel

/-- The bottom mask is zero on the patch grid's last row, else one. -/
theorem bz_at (c : Fin 2) (s : Fin 16) : bz (F := Ideal) (pt c.val s.val) = (if 12 ≤ grp (pt c.val s.val) % 16 then 0 else 1 : EReal) := by
  refine mask_of _ _ ?_
  revert c s
  decide +kernel

/-- The left mask is zero on the patch grid's first column, else one. -/
theorem lz_at (c : Fin 2) (s : Fin 16) : lz (F := Ideal) (pt c.val s.val) = (if grp (pt c.val s.val) % 4 = 0 then 0 else 1 : EReal) := by
  refine mask_of _ _ ?_
  revert c s
  decide +kernel

/-- The right mask is zero on the patch grid's last column, else one. -/
theorem rz_at (c : Fin 2) (s : Fin 16) : rz (F := Ideal) (pt c.val s.val) = (if grp (pt c.val s.val) % 4 = 3 then 0 else 1 : EReal) := by
  refine mask_of _ _ ?_
  revert c s
  decide +kernel

/-- The named constant is one third. -/
theorem third_at : third (F := Ideal) = t3 := IdealRules.named_const.ideal_named_scalar _ _ _ _ rfl

/-! ## The padded image -/

/-- A masked mean of three. -/
theorem mean1_at (t a b c mk : EReal) : mean1 (F := Ideal) t a b c mk = (a + b + c) * t * mk := rfl

/-- A row of the image followed by zeros. -/
theorem rowpad_at (y : ℕ → EReal) (r k : ℕ) : rowpad (F := Ideal) (fun k => y (96 * r + k)) k = rowz y r k :=
  if_congr Iff.rfl rfl ofBits_0

/-- An edge row of the padded image. -/
theorem edge_at (m l r : Prop) [Decidable m] [Decidable l] [Decidable r] (p : ℕ → EReal) (c : ℕ) :
    edgeVal (F := Ideal) t3 (if m then 0 else 1 : EReal) (if l then 0 else 1 : EReal) (if r then 0 else 1 : EReal) p c
      = if c = 0 then (if l then 0 else if m then 0 else p 0)
        else if c = 97 then (if r then 0 else if m then 0 else p 95)
        else if m then 0 else (p (c - 1) + p c + p (c + 1)) * t3 := by
  show (if c = 0 then p 0 * ((if m then 0 else 1) * (if l then 0 else 1)) else if c = 97 then p 95 * ((if m then 0 else 1) * (if r then 0 else 1))
    else (p (c - 1) + p c + p (c + 1)) * t3 * (if m then 0 else 1) : EReal) = _
  split_ifs <;> simp

/-- An inner row of the padded image. -/
theorem inner_at (l r : Prop) [Decidable l] [Decidable r] (x : ℕ → EReal) (c : ℕ) :
    rowVal (F := Ideal) t3 (if l then 0 else 1 : EReal) (if r then 0 else 1 : EReal) x c
      = if c = 0 then (if l then 0 else (x 0 + x 1 + x 2) * t3) else if c = 97 then (if r then 0 else (x 93 + x 94 + x 95) * t3) else x (c - 1) := by
  show (if c = 0 then (x 0 + x 1 + x 2) * t3 * (if l then 0 else 1) else if c = 97 then (x 93 + x 94 + x 95) * t3 * (if r then 0 else 1) else x (c - 1) : EReal) = _
  split_ifs <;> simp

/-- The kernel's padded image is the padded image. -/
theorem pixel_at (c : Fin 2) (s : Fin 16) (y : ℕ → EReal) (h w : ℕ) (hh : h < 98) (hw : w < 98) :
    pixel (F := Ideal) (pt c.val s.val) y h w = border y (grp (pt c.val s.val)) h w := by
  unfold pixel pix
  rw [tz_at, bz_at, lz_at, rz_at, third_at]
  generalize grp (pt c.val s.val) = b
  by_cases h0 : h = 0
  · subst h0
    rw [if_pos rfl, edge_at]
    have e : ∀ k, rowpad (F := Ideal) y k = rowz y 0 k := fun k => by
      rw [← rowpad_at]; exact congrArg (fun z => rowpad (F := Ideal) z k) (funext fun k => congrArg y (by omega))
    simp only [e]
    unfold border
    by_cases w0 : w = 0
    · subst w0
      simp [rowz]
    by_cases w1 : w = 97
    · subst w1
      simp [rowz]
    · have w2 : 1 ≤ w ∧ w ≤ 96 := by omega
      simp [w0, w1, w2]
  by_cases h1 : h = 97
  · subst h1
    rw [if_neg h0, if_pos rfl, edge_at]
    have e : ∀ k, rowpad (F := Ideal) (fun k => y (9120 + k)) k = rowz y 95 k := fun k => rowpad_at y 95 k
    simp only [e]
    unfold border
    by_cases w0 : w = 0
    · subst w0
      simp [rowz]
    by_cases w1 : w = 97
    · subst w1
      simp [rowz]
    · have w2 : 1 ≤ w ∧ w ≤ 96 := by omega
      simp [w0, w1, w2]
  · rw [if_neg h0, if_neg h1, inner_at]
    have h2 : 1 ≤ h ∧ h ≤ 96 := by omega
    unfold border
    by_cases w0 : w = 0
    · subst w0
      simp [h0, h1, h2]
    by_cases w1 : w = 97
    · subst w1
      simp [h0, h1, h2]
    · have e : min (h - 1) 95 = h - 1 := by omega
      have e' : min (w - 1) 95 = w - 1 := by omega
      simp [w0, w1, h0, h1, e, e']

/-! ## The result -/

/-- The position `[b, ch, h, w]` of the result, read from the flat padded images. -/
theorem resOf_at (f : S40894464.Idx → EReal) (b : Fin 32) (ch : Fin 96) (h w : Fin 98) :
    resOf (F := Ideal) f (ix4 b ch h w) = f (at1 (1277952 * b.val + 13312 * ch.val + 128 * h.val + w.val)) := by
  have hb := b.isLt
  have hc := ch.isLt
  have hh := h.isLt
  have hw := w.isLt
  unfold resOf
  refine Eq.trans (extractStridedSlice_apply _ _ _ _ (ix4 b ch (⟨h.val, by omega⟩ : Fin 104) (⟨w.val, by omega⟩ : Fin 128)) fun a => ?_) ?_
  · match a with
    | 0 => exact (Nat.zero_add _).symm
    | 1 => exact (Nat.zero_add _).symm
    | 2 => exact (Nat.zero_add _).symm
    | 3 => exact (Nat.zero_add _).symm
  refine shapeCast_apply _ _ _ _ ?_
  rw [Shape.rowMajor_val_one, Shape.rowMajor_val_four]
  show (1277952 * b.val + 13312 * ch.val + 128 * h.val + w.val) % 40894464 = _
  simp [ix4]
  omega

/-- The flat argument at a position of an image. -/
theorem X_at (m : (ℓ : Loc nD τ sig) → Buf (Elt Ideal) ℓ) (d : Dev nD) (b : Fin 32) (ch : Fin 96) (n : ℕ) (hn : n < 9216) :
    X m d (884736 * b.val + 9216 * ch.val + n) = Cert.ReferenceIdeal.Pad.img (m (aLoc d) : S32x96x96x96.Idx → EReal) b ch n := by
  have hb := b.isLt
  have hc := ch.isLt
  have e : flat m d (ix1 (⟨884736 * b.val + 9216 * ch.val + n, by omega⟩ : Fin 28311552)) = X m d (884736 * b.val + 9216 * ch.val + n) := by
    rw [flat_eq]; rfl
  rw [← e]
  unfold flat Cert.ReferenceIdeal.Pad.img
  refine shapeCast_apply (s := S32x96x96x96) _ _ _ _ ?_
  rw [Shape.rowMajor_val_one, Shape.rowMajor_val_four]
  simp [ix4, ix1]
  omega

/-- An element of the kernel's result is the reference's. -/
theorem resOf_good_at (m : (ℓ : Loc nD τ sig) → Buf (Elt Ideal) ℓ) (d : Dev nD) (f : S40894464.Idx → EReal) (hf : Good m d f) (b : Fin 32) (ch : Fin 96)
    (h w : Fin 98) : resOf (F := Ideal) f (ix4 b ch h w) = Cert.ReferenceIdeal.Pad.refTerm (F := Ideal) (m (aLoc d) : S32x96x96x96.Idx → EReal) (ix4 b ch h w) := by
  have hb := b.isLt
  have hg : grp (pt (⟨b.val % 2, by omega⟩ : Fin 2).val (⟨b.val / 2, by omega⟩ : Fin 16).val) = b.val := by
    rw [grp_pt]
    show 2 * (b.val / 2 % 16) + b.val % 2 % 2 = b.val
    omega
  refine Eq.trans ?_ (Cert.ReferenceIdeal.Pad.refTerm_at (m (aLoc d) : S32x96x96x96.Idx → EReal) b ch h w).symm
  have hv := hf (⟨b.val % 2, by omega⟩ : Fin 2) (⟨b.val / 2, by omega⟩ : Fin 16) ch.val h.val w.val ch.isLt h.isLt w.isLt
  rw [pixel_at _ _ _ _ _ h.isLt w.isLt, hg] at hv
  rw [resOf_at]
  exact hv.trans (border_congr (fun n hn => X_at m d b ch n hn) _ h.isLt w.isLt)

/-- The kernel's result is the reference's. -/
theorem resOf_good (m : (ℓ : Loc nD τ sig) → Buf (Elt Ideal) ℓ) (d : Dev nD) (f : S40894464.Idx → EReal) (hf : Good m d f) :
    resOf (F := Ideal) f = Cert.ReferenceIdeal.Pad.refTerm (F := Ideal) (m (aLoc d) : S32x96x96x96.Idx → EReal) := by
  funext j
  have e : j = ix4 (n0 := 32) (n1 := 96) (n2 := 98) (n3 := 98) (j 0) (j 1) (j 2) (j 3) := eq_ix4 j
  rw [e]
  exact resOf_good_at m d f hf (j 0) (j 1) (j 2) (j 3)

end Cert.KernelIdeal.Pad

end
-- ==== Proof.lean ====
/-
  The five claims: the frames, the idealization, and the equality of the kernel and the reference on the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Value
public import Idealize.ShloMosaic.Lib.Quiescent

@[expose] public section

noncomputable section

namespace Cert.Proof

open Idealize.ShloMosaic Idealize.SL.Sem

/-- The kernel runs and leaves its argument as it was. -/
theorem frame_p : Cert.quiescent_Kernel (hKernel := Cert.Kernel.Gen.facts) := fun m ρ _ =>
  (θ_run _ _ _).mono (fun _ h => ⟨fun c => (h.1 c).1, h.2⟩) (Cert.Kernel.Pad.run_main (F := Bits) m ρ)

/-- The idealized kernel runs and leaves its argument as it was. -/
theorem frame_pi : Cert.quiescent_KernelIdeal (hKernelIdeal := Cert.KernelIdeal.Gen.facts) := fun m ρ _ =>
  (θ_run _ _ _).mono (fun _ h => ⟨fun c => (h.1 c).1, h.2⟩) (Cert.KernelIdeal.Pad.run_main (F := Ideal) m ρ)

/-- The reference runs and leaves its argument as it was. -/
theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's constant is the nearest float to one third. -/
theorem preserves : Cert.preserves_Kernel_KernelIdeal :=
  IdealRules.named_const.statement Cert.KernelIdeal.κ "third" .f32 0x3EAAAAAB#32 ((3⁻¹ : ℝ) : EReal) rfl

/-- The kernel and the reference compute the same padded images. -/
theorem algebraic : Cert.algebraic_KernelIdeal_ReferenceIdeal (hKernelIdeal := Cert.KernelIdeal.Gen.facts) (hReferenceIdeal := Cert.ReferenceIdeal.Gen.facts) := by
  intro m ρ m' ρ' _ h0
  refine ⟨fun c => Cert.ReferenceIdeal.Pad.refTerm (F := Ideal) (m (Cert.KernelIdeal.Pad.aLoc c)), ?_, ?_⟩
  · refine (θ_run _ _ _).mono (fun r h c => ?_) (Cert.KernelIdeal.Pad.run_main (F := Ideal) m ρ)
    obtain ⟨ha, f, hf, hr⟩ := h.1 c
    exact ⟨hr.trans (Cert.KernelIdeal.Pad.resOf_good m c f hf), ha⟩
  · refine (θ_run Cert.ReferenceIdeal.defs _ _).mono (fun r h c => ⟨?_, (h c).2⟩) (Cert.ReferenceIdeal.Value.run (F := Ideal) m' ρ')
    exact (h c).1.trans ((Cert.ReferenceIdeal.Pad.res_eq m' c).trans (congrArg (Cert.ReferenceIdeal.Pad.refTerm (F := Ideal)) (h0 c)))

/-- The five claims together. -/
theorem claim : Cert.Claim :=
  ⟨Cert.Kernel.Gen.facts, Cert.KernelIdeal.Gen.facts, Cert.ReferenceIdeal.Gen.facts, frame_p, frame_pi, frame_ri, preserves, algebraic⟩

end Cert.Proof

end
